-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_img_size_nonzero [hPre_img_size_nonzero : Cert.Pre_img_size_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_img_size_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_img_size_nonzero [hPre_img_size_nonzero : Cert.Pre_img_size_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_img_size_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_img_size_nonzero [hKernelIdeal : Cert.KernelIdeal.Facts] [hPre_img_size_nonzero : Cert.Pre_img_size_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_img_size_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_img_size_nonzero [hReferenceIdeal : Cert.ReferenceIdeal.Facts] [hPre_img_size_nonzero : Cert.Pre_img_size_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_img_size_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_img_size_nonzero [hKernelIdeal : Cert.KernelIdeal.Facts] [hReferenceIdeal : Cert.ReferenceIdeal.Facts] [hPre_img_size_nonzero : Cert.Pre_img_size_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_img_size_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_img_size_nonzero : Cert.Pre_img_size_nonzero.Facts),
    quiescent_Kernel (hKernel := hKernel)
    ∧ quiescent_KernelIdeal (hKernelIdeal := hKernelIdeal)
    ∧ quiescent_KernelIdeal_pre_img_size_nonzero (hKernelIdeal := hKernelIdeal) (hPre_img_size_nonzero := hPre_img_size_nonzero)
    ∧ quiescent_ReferenceIdeal (hReferenceIdeal := hReferenceIdeal)
    ∧ quiescent_ReferenceIdeal_pre_img_size_nonzero (hReferenceIdeal := hReferenceIdeal) (hPre_img_size_nonzero := hPre_img_size_nonzero)
    ∧ preserves_Kernel_KernelIdeal
    ∧ algebraic_KernelIdeal_ReferenceIdeal_pre_img_size_nonzero (hKernelIdeal := hKernelIdeal) (hReferenceIdeal := hReferenceIdeal) (hPre_img_size_nonzero := hPre_img_size_nonzero)
-- ==== Pre_img_size_nonzero.lean ====
abbrev S32x255x76x76 : Shape := ⟨4, ![32, 255, 76, 76]⟩
abbrev S3x2 : Shape := ⟨2, ![3, 2]⟩
abbrev S_ : Shape := ⟨0, ![]⟩

class Facts : Prop where

variable [Facts]

def fn {F : FTy → Type} [FloatOps F] (main_arg0 : FVec F S32x255x76x76 .f32) (main_arg1 : FVec F S3x2 .f32) (main_arg2 : IVec S_ 32) : IVec S_ 1 :=
  let main_c : IVec S_ 32 := constantI S_ 32 0#32
  let main_v0 : IVec S_ 1 := cmpi .ne main_arg2 main_c
  main_v0
-- ==== Kernel.lean ====
abbrev S32x255x76x76 : Shape := ⟨4, ![32, 255, 76, 76]⟩
abbrev S3x2 : Shape := ⟨2, ![3, 2]⟩
abbrev S_ : Shape := ⟨0, ![]⟩
abbrev S76x76x32x255 : Shape := ⟨4, ![76, 76, 32, 255]⟩
abbrev S5776x32x255 : Shape := ⟨3, ![5776, 32, 255]⟩
abbrev S5776 : Shape := ⟨1, ![5776]⟩
abbrev S1x5776 : Shape := ⟨2, ![1, 5776]⟩
abbrev S2x5776 : Shape := ⟨2, ![2, 5776]⟩
abbrev S1x2 : Shape := ⟨2, ![1, 2]⟩
abbrev S4x2 : Shape := ⟨2, ![4, 2]⟩
abbrev S85x32x17328 : Shape := ⟨3, ![85, 32, 17328]⟩
abbrev S3x5776x255 : Shape := ⟨3, ![3, 5776, 255]⟩
abbrev S3x85x17328 : Shape := ⟨3, ![3, 85, 17328]⟩
abbrev S3 : Shape := ⟨1, ![3]⟩
abbrev S1x1 : Shape := ⟨2, ![1, 1]⟩
abbrev S1x2888x255 : Shape := ⟨3, ![1, 2888, 255]⟩
abbrev S2888x255 : Shape := ⟨2, ![2888, 255]⟩
abbrev S2888x1x255 : Shape := ⟨3, ![2888, 1, 255]⟩
abbrev S1 : Shape := ⟨1, ![1]⟩
abbrev S85x1x17328 : Shape := ⟨3, ![85, 1, 17328]⟩
abbrev S85x17328 : Shape := ⟨2, ![85, 17328]⟩
abbrev S1x85x17328 : Shape := ⟨3, ![1, 85, 17328]⟩
abbrev S1x5776x255 : Shape := ⟨3, ![1, 5776, 255]⟩
abbrev S5776x255 : Shape := ⟨2, ![5776, 255]⟩
abbrev S255x5776 : Shape := ⟨2, ![255, 5776]⟩
abbrev S3x5776 : Shape := ⟨2, ![3, 5776]⟩
abbrev S5x5776 : Shape := ⟨2, ![5, 5776]⟩
abbrev S85x5776 : Shape := ⟨2, ![85, 5776]⟩
abbrev S1x85x5776 : Shape := ⟨3, ![1, 85, 5776]⟩
abbrev S1x5x5776 : Shape := ⟨3, ![1, 5, 5776]⟩
abbrev S32x17328x85 : Shape := ⟨3, ![32, 17328, 85]⟩

abbrev nBuf : Space → Nat
  | .hbm => 42
  | .vmem => 3
  | .smem => 1
  | _ => 0

abbrev bufTy : (tb : Table) → Fin (tcTables nBuf tb) → BufTy
  | .hbm, ⟨0, _⟩ => ⟨S32x255x76x76, .f32⟩
  | .hbm, ⟨1, _⟩ => ⟨S3x2, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S76x76x32x255, .f32⟩
  | .hbm, ⟨7, _⟩ => ⟨S5776x32x255, .f32⟩
  | .hbm, ⟨8, _⟩ => ⟨S5776, .f32⟩
  | .hbm, ⟨9, _⟩ => ⟨S_, .i32⟩
  | .hbm, ⟨10, _⟩ => ⟨S_, .f32⟩
  | .hbm, ⟨11, _⟩ => ⟨S5776, .f32⟩
  | .hbm, ⟨12, _⟩ => ⟨S5776, .f32⟩
  | .hbm, ⟨13, _⟩ => ⟨S_, .f32⟩
  | .hbm, ⟨14, _⟩ => ⟨S5776, .f32⟩
  | .hbm, ⟨15, _⟩ => ⟨S5776, .i1⟩
  | .hbm, ⟨16, _⟩ => ⟨S_, .f32⟩
  | .hbm, ⟨17, _⟩ => ⟨S5776, .f32⟩
  | .hbm, ⟨18, _⟩ => ⟨S5776, .i1⟩
  | .hbm, ⟨19, _⟩ => ⟨S_, .f32⟩
  | .hbm, ⟨20, _⟩ => ⟨S_, .i1⟩
  | .hbm, ⟨21, _⟩ => ⟨S5776, .i1⟩
  | .hbm, ⟨22, _⟩ => ⟨S5776, .i1⟩
  | .hbm, ⟨23, _⟩ => ⟨S5776, .i1⟩
  | .hbm, ⟨24, _⟩ => ⟨S5776, .f32⟩
  | .hbm, ⟨25, _⟩ => ⟨S5776, .f32⟩
  | .hbm, ⟨26, _⟩ => ⟨S5776, .f32⟩
  | .hbm, ⟨27, _⟩ => ⟨S5776, .f32⟩
  | .hbm, ⟨28, _⟩ => ⟨S5776, .f32⟩
  | .hbm, ⟨29, _⟩ => ⟨S_, .f32⟩
  | .hbm, ⟨30, _⟩ => ⟨S5776, .f32⟩
  | .hbm, ⟨31, _⟩ => ⟨S5776, .f32⟩
  | .hbm, ⟨32, _⟩ => ⟨S5776, .f32⟩
  | .hbm, ⟨33, _⟩ => ⟨S5776, .f32⟩
  | .hbm, ⟨34, _⟩ => ⟨S5776, .f32⟩
  | .hbm, ⟨35, _⟩ => ⟨S1x5776, .f32⟩
  | .hbm, ⟨36, _⟩ => ⟨S1x5776, .f32⟩
  | .hbm, ⟨37, _⟩ => ⟨S2x5776, .f32⟩
  | .hbm, ⟨38, _⟩ => ⟨S1x2, .f32⟩
  | .hbm, ⟨39, _⟩ => ⟨S4x2, .f32⟩
  | .hbm, ⟨40, _⟩ => ⟨S85x32x17328, .f32⟩
  | .hbm, ⟨41, _⟩ => ⟨S32x17328x85, .f32⟩
  | .local _ .vmem, ⟨0, _⟩ => ⟨S2x5776, .f32⟩
  | .local _ .vmem, ⟨1, _⟩ => ⟨S3x5776x255, .f32⟩
  | .local _ .vmem, ⟨2, _⟩ => ⟨S3x85x17328, .f32⟩
  | .local _ .smem, ⟨0, _⟩ => ⟨S4x2, .f32⟩
  | _, _ => ⟨S32x255x76x76, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v4 : BitVec 32 := Scalar.addi arg0 c2_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c2_i32_61 : BitVec 32 := 2#32
  let v151 : BitVec 32 := Scalar.addi arg0 c2_i32_61
  let c3_i32_62 : BitVec 32 := 3#32
  let v152 : BitVec 32 := Scalar.remsi v151 c3_i32_62
  let c0_i32_63 : BitVec 32 := 0#32
  ![v152.toNat, 0]
def k0_off2 (i : grid0.Coords) : Fin 3 → Nat :=
  let arg0 : BitVec 32 := BitVec.ofNat 32 (i 0).val
  let c2_i32_61 : BitVec 32 := 2#32
  let v151 : BitVec 32 := Scalar.addi arg0 c2_i32_61
  let c3_i32_62 : BitVec 32 := 3#32
  let v152 : BitVec 32 := Scalar.remsi v151 c3_i32_62
  let c0_i32_64 : BitVec 32 := 0#32
  let c0_i32_65 : BitVec 32 := 0#32
  ![v152.toNat, 0, 0]
def k0_off3 (i : grid0.Coords) : Fin 3 → Nat :=
  let c0_i32_66 : BitVec 32 := 0#32
  let arg0 : BitVec 32 := BitVec.ofNat 32 (i 0).val
  let c2_i32_60 : BitVec 32 := 2#32
  let v150 : BitVec 32 := Scalar.addi arg0 c2_i32_60
  let c0_i32_67 : BitVec 32 := 0#32
  ![0, v150.toNat, 0]
def k0_off4 (i : grid0.Coords) : Fin 2 → Nat :=
  let arg0 : BitVec 32 := BitVec.ofNat 32 (i 0).val
  let c2_i32_61 : BitVec 32 := 2#32
  let v151 : BitVec 32 := Scalar.addi arg0 c2_i32_61
  let c3_i32_62 : BitVec 32 := 3#32
  let v152 : BitVec 32 := Scalar.remsi v151 c3_i32_62
  let c1_i32_68 : BitVec 32 := 1#32
  ![v152.toNat, 1]
def k0_off5 (i : grid0.Coords) : Fin 3 → Nat :=
  let arg0 : BitVec 32 := BitVec.ofNat 32 (i 0).val
  let c2_i32_61 : BitVec 32 := 2#32
  let v151 : BitVec 32 := Scalar.addi arg0 c2_i32_61
  let c3_i32_62 : BitVec 32 := 3#32
  let v152 : BitVec 32 := Scalar.remsi v151 c3_i32_62
  let c2888_i32_69 : BitVec 32 := 2888#32
  let c0_i32_70 : BitVec 32 := 0#32
  ![v152.toNat, 2888, 0]
def k0_off6 (i : grid0.Coords) : Fin 3 → Nat :=
  let c2888_i32_71 : BitVec 32 := 2888#32
  let arg0 : BitVec 32 := BitVec.ofNat 32 (i 0).val
  let c2_i32_60 : BitVec 32 := 2#32
  let v150 : BitVec 32 := Scalar.addi arg0 c2_i32_60
  let c0_i32_72 : BitVec 32 := 0#32
  ![2888, v150.toNat, 0]
def k0_off7 (i : grid0.Coords) : Fin 2 → Nat :=
  let arg0 : BitVec 32 := BitVec.ofNat 32 (i 0).val
  let c3_i32 : BitVec 32 := 3#32
  let v0 : BitVec 32 := Scalar.remsi arg0 c3_i32
  let c0_i32_2 : BitVec 32 := 0#32
  ![v0.toNat, 0]
def k0_off8 (i : grid0.Coords) : Fin 3 → Nat :=
  let arg0 : BitVec 32 := BitVec.ofNat 32 (i 0).val
  let c3_i32 : BitVec 32 := 3#32
  let v0 : BitVec 32 := Scalar.remsi arg0 c3_i32
  let c0_i32_3 : BitVec 32 := 0#32
  let c0_i32_4 : BitVec 32 := 0#32
  ![v0.toNat, 0, 0]
def k0_off9 (i : grid0.Coords) : Fin 3 → Nat :=
  let c0_i32_5 : BitVec 32 := 0#32
  let arg0 : BitVec 32 := BitVec.ofNat 32 (i 0).val
  let c0_i32_6 : BitVec 32 := 0#32
  ![0, arg0.toNat, 0]
def k0_off10 (i : grid0.Coords) : Fin 2 → Nat :=
  let arg0 : BitVec 32 := BitVec.ofNat 32 (i 0).val
  let c3_i32 : BitVec 32 := 3#32
  let v0 : BitVec 32 := Scalar.remsi arg0 c3_i32
  let c1_i32 : BitVec 32 := 1#32
  ![v0.toNat, 1]
def k0_off11 (i : grid0.Coords) : Fin 3 → Nat :=
  let arg0 : BitVec 32 := BitVec.ofNat 32 (i 0).val
  let c3_i32 : BitVec 32 := 3#32
  let v0 : BitVec 32 := Scalar.remsi arg0 c3_i32
  let c2888_i32 : BitVec 32 := 2888#32
  let c0_i32_7 : BitVec 32 := 0#32
  ![v0.toNat, 2888, 0]
def k0_off12 (i : grid0.Coords) : Fin 3 → Nat :=
  let c2888_i32_8 : BitVec 32 := 2888#32
  let arg0 : BitVec 32 := BitVec.ofNat 32 (i 0).val
  let c0_i32_9 : BitVec 32 := 0#32
  ![2888, arg0.toNat, 0]
def k0_cond3 (i : grid0.Coords) : BitVec 1 :=
  let arg0 : BitVec 32 := BitVec.ofNat 32 (i 0).val
  let c3_i32_10 : BitVec 32 := 3#32
  let v20 : BitVec 1 := Scalar.cmpi .sge arg0 c3_i32_10
  let v21 : BitVec 32 := Scalar.extui v20
  let c0_i32_11 : BitVec 32 := 0#32
  let v22 : BitVec 1 := Scalar.cmpi .ne v21 c0_i32_11
  v22

def k0_off13 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off14 (i : grid0.Coords) : Fin 3 → Nat :=
  let c0_i32_61 : BitVec 32 := 0#32
  let arg0 : BitVec 32 := BitVec.ofNat 32 (i 0).val
  let c3_i32_60 : BitVec 32 := 3#32
  let v150 : BitVec 32 := Scalar.subi arg0 c3_i32_60
  let c0_i32_62 : BitVec 32 := 0#32
  ![0, v150.toNat, 0]
def k0_off15 (i : grid0.Coords) : Fin 3 → Nat :=
  let arg0 : BitVec 32 := BitVec.ofNat 32 (i 0).val
  let c3_i32 : BitVec 32 := 3#32
  let v0 : BitVec 32 := Scalar.remsi arg0 c3_i32
  let c0_i32_63 : BitVec 32 := 0#32
  let c0_i32_64 : BitVec 32 := 0#32
  ![v0.toNat, 0, 0]
def k0_off16 (i : grid0.Coords) : Fin 3 → Nat :=
  let arg0 : BitVec 32 := BitVec.ofNat 32 (i 0).val
  let c3_i32 : BitVec 32 := 3#32
  let v0 : BitVec 32 := Scalar.remsi arg0 c3_i32
  let v23 : Index := Scalar.indexCast v0
  let c0 : Index := 0#32
  let c0_12 : Index := 0#32
  ![v23.toNat, 0, 0]
def k0_off17 (i : grid0.Coords) : Fin 3 → Nat :=
  let arg0 : BitVec 32 := BitVec.ofNat 32 (i 0).val
  let c3_i32 : BitVec 32 := 3#32
  let v0 : BitVec 32 := Scalar.remsi arg0 c3_i32
  let v61 : Index := Scalar.indexCast v0
  let c0_26 : Index := 0#32
  let c0_27 : Index := 0#32
  ![v61.toNat, 0, 0]
def k0_off18 (i : grid0.Coords) : Fin 3 → Nat :=
  let arg0 : BitVec 32 := BitVec.ofNat 32 (i 0).val
  let c3_i32 : BitVec 32 := 3#32
  let v0 : BitVec 32 := Scalar.remsi arg0 c3_i32
  let v67 : Index := Scalar.indexCast v0
  let c0_28 : Index := 0#32
  let c0_29 : Index := 0#32
  ![v67.toNat, 0, 0]
def k0_off19 (i : grid0.Coords) : Fin 3 → Nat :=
  let arg0 : BitVec 32 := BitVec.ofNat 32 (i 0).val
  let c3_i32 : BitVec 32 := 3#32
  let v0 : BitVec 32 := Scalar.remsi arg0 c3_i32
  let v96 : Index := Scalar.indexCast v0
  let c0_40 : Index := 0#32
  let c5776 : Index := 5776#32
  ![v96.toNat, 0, 5776]
def k0_off20 (i : grid0.Coords) : Fin 3 → Nat :=
  let arg0 : BitVec 32 := BitVec.ofNat 32 (i 0).val
  let c3_i32 : BitVec 32 := 3#32
  let v0 : BitVec 32 := Scalar.remsi arg0 c3_i32
  let v102 : Index := Scalar.indexCast v0
  let c0_41 : Index := 0#32
  let c5776_42 : Index := 5776#32
  ![v102.toNat, 0, 5776]
def k0_off21 (i : grid0.Coords) : Fin 3 → Nat :=
  let arg0 : BitVec 32 := BitVec.ofNat 32 (i 0).val
  let c3_i32 : BitVec 32 := 3#32
  let v0 : BitVec 32 := Scalar.remsi arg0 c3_i32
  let v131 : Index := Scalar.indexCast v0
  let c0_52 : Index := 0#32
  let c11552 : Index := 11552#32
  ![v131.toNat, 0, 11552]
def k0_off22 (i : grid0.Coords) : Fin 3 → Nat :=
  let arg0 : BitVec 32 := BitVec.ofNat 32 (i 0).val
  let c3_i32 : BitVec 32 := 3#32
  let v0 : BitVec 32 := Scalar.remsi arg0 c3_i32
  let v137 : Index := Scalar.indexCast v0
  let c0_53 : Index := 0#32
  let c11552_54 : Index := 11552#32
  ![v137.toNat, 0, 11552]
def k0_off23 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off24 (i : grid0.Coords) : Fin 3 → Nat :=
  let c0_i32_55 : BitVec 32 := 0#32
  let arg0 : BitVec 32 := BitVec.ofNat 32 (i 0).val
  let c0_i32_56 : BitVec 32 := 0#32
  ![0, arg0.toNat, 0]
def k0_off25 (i : grid0.Coords) : Fin 3 → Nat :=
  let arg0 : BitVec 32 := BitVec.ofNat 32 (i 0).val
  let c3_i32 : BitVec 32 := 3#32
  let v0 : BitVec 32 := Scalar.remsi arg0 c3_i32
  let c0_i32_57 : BitVec 32 := 0#32
  let c0_i32_58 : BitVec 32 := 0#32
  ![v0.toNat, 0, 0]
def k0_cond4 (i : grid0.Coords) : BitVec 1 :=
  let arg0 : BitVec 32 := BitVec.ofNat 32 (i 0).val
  let c31_i32 : BitVec 32 := 31#32
  let v147 : BitVec 1 := Scalar.cmpi .eq arg0 c31_i32
  let v148 : BitVec 32 := Scalar.extui v147
  let c0_i32_59 : BitVec 32 := 0#32
  let v149 : BitVec 1 := Scalar.cmpi .ne v148 c0_i32_59
  v149

def k0_off26 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off27 (i : grid0.Coords) : Fin 3 → Nat :=
  let c0_i32_60 : BitVec 32 := 0#32
  let arg0 : BitVec 32 := BitVec.ofNat 32 (i 0).val
  let c0_i32_61 : BitVec 32 := 0#32
  ![0, arg0.toNat, 0]
def k0_off28 (i : grid0.Coords) : Fin 3 → Nat :=
  let arg0 : BitVec 32 := BitVec.ofNat 32 (i 0).val
  let c3_i32 : BitVec 32 := 3#32
  let v0 : BitVec 32 := Scalar.remsi arg0 c3_i32
  let c0_i32_62 : BitVec 32 := 0#32
  let c0_i32_63 : BitVec 32 := 0#32
  ![v0.toNat, 0, 0]
def k0_off29 (i : grid0.Coords) (c2_i32_65 : BitVec 32) : Fin 1 → Nat :=
  let arg0 : BitVec 32 := BitVec.ofNat 32 (i 0).val
  let v157 : BitVec 32 := Scalar.addi arg0 c2_i32_65
  let c3_i32_66 : BitVec 32 := 3#32
  let v158 : BitVec 32 := Scalar.remsi v157 c3_i32_66
  ![v158.toNat]
def k0_off30 (i : grid0.Coords) (c1_i32_64 : BitVec 32) : Fin 3 → Nat :=
  let c0_i32_67 : BitVec 32 := 0#32
  let arg0 : BitVec 32 := BitVec.ofNat 32 (i 0).val
  let v156 : BitVec 32 := Scalar.subi arg0 c1_i32_64
  let c0_i32_68 : BitVec 32 := 0#32
  ![0, v156.toNat, 0]
def k0_off31 (i : grid0.Coords) (c2_i32_65 : BitVec 32) : Fin 3 → Nat :=
  let arg0 : BitVec 32 := BitVec.ofNat 32 (i 0).val
  let v157 : BitVec 32 := Scalar.addi arg0 c2_i32_65
  let c3_i32_66 : BitVec 32 := 3#32
  let v158 : BitVec 32 := Scalar.remsi v157 c3_i32_66
  let c0_i32_69 : BitVec 32 := 0#32
  let c0_i32_70 : BitVec 32 := 0#32
  ![v158.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x5776 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x255x76x76 : Shape := ⟨4, ![32, 255, 76, 76]⟩
abbrev S3x2 : Shape := ⟨2, ![3, 2]⟩
abbrev S_ : Shape := ⟨0, ![]⟩
abbrev S76 : Shape := ⟨1, ![76]⟩
abbrev S1x76 : Shape := ⟨2, ![1, 76]⟩
abbrev S1x1x1x76 : Shape := ⟨4, ![1, 1, 1, 76]⟩
abbrev S76x1x1x76 : Shape := ⟨4, ![76, 1, 1, 76]⟩
abbrev S76x76 : Shape := ⟨2, ![76, 76]⟩
abbrev S1x1x76x76 : Shape := ⟨4, ![1, 1, 76, 76]⟩
abbrev S1x1x76x76x1 : Shape := ⟨5, ![1, 1, 76, 76, 1]⟩
abbrev S1x1x76x76x2 : Shape := ⟨5, ![1, 1, 76, 76, 2]⟩
abbrev S1x3x1x1x2 : Shape := ⟨5, ![1, 3, 1, 1, 2]⟩
abbrev S32x3x85x76x76 : Shape := ⟨5, ![32, 3, 85, 76, 76]⟩
abbrev S32x3x76x76x85 : Shape := ⟨5, ![32, 3, 76, 76, 85]⟩
abbrev S32x3x76x76x2 : Shape := ⟨5, ![32, 3, 76, 76, 2]⟩
abbrev S32x3x76x76x1 : Shape := ⟨5, ![32, 3, 76, 76, 1]⟩
abbrev S32x3x76x76x80 : Shape := ⟨5, ![32, 3, 76, 76, 80]⟩
abbrev S32x17328x85 : Shape := ⟨3, ![32, 17328, 85]⟩

abbrev nBuf : Space → Nat
  | .hbm => 52
  | .vmem => 0
  | .smem => 0
  | _ => 0

abbrev bufTy : (tb : Table) → Fin (tcTables nBuf tb) → BufTy
  | .hbm, ⟨0, _⟩ => ⟨S32x255x76x76, .f32⟩
  | .hbm, ⟨1, _⟩ => ⟨S3x2, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S76, .f32⟩
  | .hbm, ⟨7, _⟩ => ⟨S1x76, .f32⟩
  | .hbm, ⟨8, _⟩ => ⟨S1x1x1x76, .f32⟩
  | .hbm, ⟨9, _⟩ => ⟨S76x1x1x76, .f32⟩
  | .hbm, ⟨10, _⟩ => ⟨S76x76, .f32⟩
  | .hbm, ⟨11, _⟩ => ⟨S1x1x76x76, .f32⟩
  | .hbm, ⟨12, _⟩ => ⟨S1x1x76x76, .f32⟩
  | .hbm, ⟨13, _⟩ => ⟨S1x1x76x76x1, .f32⟩
  | .hbm, ⟨14, _⟩ => ⟨S1x1x76x76x1, .f32⟩
  | .hbm, ⟨15, _⟩ => ⟨S1x1x76x76x2, .f32⟩
  | .hbm, ⟨16, _⟩ => ⟨S3x2, .f32⟩
  | .hbm, ⟨17, _⟩ => ⟨S3x2, .f32⟩
  | .hbm, ⟨18, _⟩ => ⟨S1x3x1x1x2, .f32⟩
  | .hbm, ⟨19, _⟩ => ⟨S32x3x85x76x76, .f32⟩
  | .hbm, ⟨20, _⟩ => ⟨S32x3x76x76x85, .f32⟩
  | .hbm, ⟨21, _⟩ => ⟨S32x3x76x76x2, .f32⟩
  | .hbm, ⟨22, _⟩ => ⟨S32x3x76x76x2, .f32⟩
  | .hbm, ⟨23, _⟩ => ⟨S32x3x76x76x2, .f32⟩
  | .hbm, ⟨24, _⟩ => ⟨S_, .f32⟩
  | .hbm, ⟨25, _⟩ => ⟨S32x3x76x76x2, .f32⟩
  | .hbm, ⟨26, _⟩ => ⟨S32x3x76x76x2, .f32⟩
  | .hbm, ⟨27, _⟩ => ⟨S_, .f32⟩
  | .hbm, ⟨28, _⟩ => ⟨S32x3x76x76x2, .f32⟩
  | .hbm, ⟨29, _⟩ => ⟨S32x3x76x76x2, .f32⟩
  | .hbm, ⟨30, _⟩ => ⟨S32x3x76x76x2, .f32⟩
  | .hbm, ⟨31, _⟩ => ⟨S32x3x76x76x2, .f32⟩
  | .hbm, ⟨32, _⟩ => ⟨S32x3x76x76x2, .f32⟩
  | .hbm, ⟨33, _⟩ => ⟨S32x3x76x76x2, .f32⟩
  | .hbm, ⟨34, _⟩ => ⟨S32x3x76x76x2, .f32⟩
  | .hbm, ⟨35, _⟩ => ⟨S32x3x76x76x2, .f32⟩
  | .hbm, ⟨36, _⟩ => ⟨S32x3x76x76x2, .f32⟩
  | .hbm, ⟨37, _⟩ => ⟨S32x3x76x76x2, .f32⟩
  | .hbm, ⟨38, _⟩ => ⟨S32x3x76x76x2, .f32⟩
  | .hbm, ⟨39, _⟩ => ⟨S32x3x76x76x2, .f32⟩
  | .hbm, ⟨40, _⟩ => ⟨S32x3x76x76x1, .f32⟩
  | .hbm, ⟨41, _⟩ => ⟨S32x3x76x76x1, .f32⟩
  | .hbm, ⟨42, _⟩ => ⟨S32x3x76x76x1, .f32⟩
  | .hbm, ⟨43, _⟩ => ⟨S_, .f32⟩
  | .hbm, ⟨44, _⟩ => ⟨S32x3x76x76x1, .f32⟩
  | .hbm, ⟨45, _⟩ => ⟨S32x3x76x76x1, .f32⟩
  | .hbm, ⟨46, _⟩ => ⟨S_, .f32⟩
  | .hbm, ⟨47, _⟩ => ⟨S32x3x76x76x1, .f32⟩
  | .hbm, ⟨48, _⟩ => ⟨S32x3x76x76x1, .f32⟩
  | .hbm, ⟨49, _⟩ => ⟨S32x3x76x76x80, .f32⟩
  | .hbm, ⟨50, _⟩ => ⟨S32x3x76x76x85, .f32⟩
  | .hbm, ⟨51, _⟩ => ⟨S32x17328x85, .f32⟩
  | _, _ => ⟨S32x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.Ker.Names.lean ====
/-
  The names the proof of the kernel body is stated over: the halves and slots of the input buffer, the blocks of the
  input, the tiles of the output buffer, the pieces of the output, the semaphore cells, and the equations that carry the
  body's own spellings at grid point `t` to these names.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Ring.WriteBehind
public import Idealize.ShloMosaic.Lib.ValueIdxCore
public import Idealize.ShloMosaic.Lib.Tactic
public import Idealize.ShloMosaic.Lib.WordCmp

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

instance : NeZero grid0.N := ⟨by rw [N_0]; decide⟩

/-! ## Memrefs and cells -/

/-- The input buffer (three slots), the output buffer (three tiles), the input and the output in HBM. -/
abbrev xbuf : Memref sig .tc .vmem S3x5776x255 .f32 := Memref.whole cc0_scratch0
abbrev tbuf : Memref sig .tc .vmem S3x85x17328 .f32 := Memref.whole cc0_scratch1
abbrev pHbm : Memref sig .tc .hbm S5776x32x255 .f32 := Memref.whole main_v3
abbrev oHbm : Memref sig .tc .hbm S85x32x17328 .f32 := Memref.whole main_v18

theorem inb_half (s : Fin 3) (h : Fin 2) : ∀ a, (![s.val, 2888 * h.val, 0] : Fin 3 → Nat) a + S1x2888x255.size a ≤ S3x5776x255.size a := by
  have := s.isLt; have := h.isLt; intro a; fin_cases a <;> simp <;> omega
theorem inb_src (b : Fin 32) (h : Fin 2) : ∀ a, (![2888 * h.val, b.val, 0] : Fin 3 → Nat) a + S2888x1x255.size a ≤ S5776x32x255.size a := by
  have := b.isLt; have := h.isLt; intro a; fin_cases a <;> simp <;> omega
theorem inb_rcell (s : Fin 3) (h : Fin 2) : ∀ a, (![s.val, h.val] : Fin 2 → Nat) a + S1x1.size a ≤ S3x2.size a := by
  have := s.isLt; have := h.isLt; intro a; fin_cases a <;> simp <;> omega
theorem inb_slot (s : Fin 3) : ∀ a, (![s.val, 0, 0] : Fin 3 → Nat) a + S1x5776x255.size a ≤ S3x5776x255.size a := by
  have := s.isLt; intro a; fin_cases a <;> simp <;> omega
theorem inb_tile (s : Fin 3) : ∀ a, (![s.val, 0, 0] : Fin 3 → Nat) a + S1x85x17328.size a ≤ S3x85x17328.size a := by
  have := s.isLt; intro a; fin_cases a <;> simp <;> omega
theorem inb_piece (u : Fin 32) : ∀ a, (![0, u.val, 0] : Fin 3 → Nat) a + S85x1x17328.size a ≤ S85x32x17328.size a := by
  have := u.isLt; intro a; fin_cases a <;> simp <;> omega
theorem inb_wcell (s : Fin 3) : ∀ a, (![s.val] : Fin 1 → Nat) a + S1.size a ≤ S3.size a := by
  have := s.isLt; intro a; fin_cases a <;> simp <;> omega

/-- Half `h` of slot `s` of the input buffer: what one copy in fills. -/
def rhalf (s : Fin 3) (h : Fin 2) : Memref sig .tc .vmem S2888x255 .f32 :=
  (xbuf.slice (Rect.unit (s := S3x5776x255) ![s.val, 2888 * h.val, 0] S1x2888x255.size (inb_half s h)) (fun _ => rfl)).squeeze S2888x255 squeezes_S1x2888x255_S2888x255
/-- Slot `s` whole: what the body loads. -/
def rslot (s : Fin 3) : Memref sig .tc .vmem S1x5776x255 .f32 :=
  xbuf.slice (Rect.unit (s := S3x5776x255) ![s.val, 0, 0] S1x5776x255.size (inb_slot s)) (fun _ => rfl)
/-- Half `h` of block `b` of the input: what one copy in reads. -/
def rsrc (b : Fin 32) (h : Fin 2) : Memref sig .tc .hbm S2888x255 .f32 :=
  (pHbm.slice (Rect.unit (s := S5776x32x255) ![2888 * h.val, b.val, 0] S2888x1x255.size (inb_src b h)) (fun _ => rfl)).squeeze S2888x255 squeezes_S2888x1x255_S2888x255
/-- The cell the copy into half `h` of slot `s` is counted on. -/
def rcell (s : Fin 3) (h : Fin 2) : DmaSems sig S_ :=
  (cc0_scratch2.slice (Rect.unit (s := S3x2) ![s.val, h.val] S1x1.size (inb_rcell s h))).squeeze S_ squeezes_S1x1_S_
/-- Tile `s` of the output buffer: what one copy out reads. -/
def wtile (s : Fin 3) : Memref sig .tc .vmem S85x17328 .f32 :=
  (tbuf.slice (Rect.unit (s := S3x85x17328) ![s.val, 0, 0] S1x85x17328.size (inb_tile s)) (fun _ => rfl)).squeeze S85x17328 squeezes_S1x85x17328_S85x17328
/-- Piece `u` of the output: what the copy of step `u` writes. -/
def wpiece (u : Fin 32) : Memref sig .tc .hbm S85x17328 .f32 :=
  (oHbm.slice (Rect.unit (s := S85x32x17328) ![0, u.val, 0] S85x1x17328.size (inb_piece u)) (fun _ => rfl)).squeeze S85x17328 squeezes_S85x1x17328_S85x17328
/-- The cell the copy out of tile `s` is counted on. -/
def wcell (s : Fin 3) : DmaSems sig S_ :=
  (cc0_scratch3.slice (Rect.unit (s := S3) ![s.val] S1.size (inb_wcell s))).squeeze S_ squeezes_S1_S_
abbrev rcellS (s : Fin 3) (h : Fin 2) : SemLoc sig := SemLoc.dma (rcell s h).sem
abbrev wcellS (s : Fin 3) : SemLoc sig := SemLoc.dma (wcell s).sem

/-! ## The conditions of the body's branches -/

abbrev cFirst (i : grid0.Coords) : Prop :=
  Scalar.cmpi .ne (Scalar.extui (Scalar.cmpi .eq (BitVec.ofNat 32 (i 0).val) 0#32) : BitVec 32) 0#32 = 1#1
abbrev cStart (i : grid0.Coords) : Prop := k0_cond2 i = 1#1
abbrev cWait (i : grid0.Coords) : Prop := k0_cond3 i = 1#1
abbrev cLast (i : grid0.Coords) : Prop := k0_cond4 i = 1#1
theorem hcFirst : ∀ t : Fin grid0.N, cFirst (grid0.coords t) ↔ t.val = 0 := by decide +kernel
theorem hcStart : ∀ t : Fin grid0.N, cStart (grid0.coords t) ↔ t.val < 30 := by decide +kernel
theorem hcWait : ∀ t : Fin grid0.N, cWait (grid0.coords t) ↔ 3 ≤ t.val := by decide +kernel
theorem hcLast : ∀ t : Fin grid0.N, cLast (grid0.coords t) ↔ t.val = 31 := by decide +kernel

/-! ## The body's spellings at grid point `t` -/

section Canon
omit [FloatOps F]
set_option synthInstance.maxSize 4096 in
theorem coff1 : ∀ t : Fin grid0.N, cStart (grid0.coords t) → k0_off1 (grid0.coords t) = ![(Ring.sl 3 (t.val + 2)).val, (0 : Fin 2).val] := by decide +kernel
@[sl_canon] theorem canon1 (t : Fin grid0.N) (h : cStart (grid0.coords t)) :
    (cc0_scratch2.slice (Rect.unit (s := S3x2) (k0_off1 (grid0.coords t)) S1x1.size (k0_off1_inb (grid0.coords t) h))).squeeze S_ squeezes_S1x1_S_ = rcell (Ring.sl 3 (t.val + 2)) 0 :=
  congrArg (fun A : DmaSems sig S1x1 => A.squeeze S_ squeezes_S1x1_S_) (SemArray.slice_unit_congr _ (coff1 t h) _ _)
@[sl_canon] theorem canon1' (t : Fin grid0.N) (h : cStart (grid0.coords t)) :
    (cc0_scratch2.slice (Rect.unit (s := S3x2) (k0_off1 (grid0.coords t)) ![1, 1] (k0_off1_inb (grid0.coords t) h))).squeeze S_ squeezes_S1x1_S_ = rcell (Ring.sl 3 (t.val + 2)) 0 :=
  canon1 t h
set_option synthInstance.maxSize 4096 in
theorem coff2 : ∀ t : Fin grid0.N, cStart (grid0.coords t) → k0_off2 (grid0.coords t) = ![(Ring.sl 3 (t.val + 2)).val, 2888 * (0 : Fin 2).val, 0] := by decide +kernel
@[sl_canon] theorem canon2 (t : Fin grid0.N) (h : cStart (grid0.coords t)) :
    (xbuf.slice (Rect.unit (s := S3x5776x255) (k0_off2 (grid0.coords t)) S1x2888x255.size (k0_off2_inb (grid0.coords t) h)) (fun _ => rfl)).squeeze S2888x255 squeezes_S1x2888x255_S2888x255 = rhalf (Ring.sl 3 (t.val + 2)) 0 :=
  congrArg (fun M : Memref sig .tc .vmem S1x2888x255 .f32 => M.squeeze S2888x255 squeezes_S1x2888x255_S2888x255) (Memref.slice_unit_congr _ (coff2 t h) _ _ (fun _ => rfl) (fun _ => rfl))
@[sl_canon] theorem canon2' (t : Fin grid0.N) (h : cStart (grid0.coords t)) :
    (xbuf.slice (Rect.unit (s := S3x5776x255) (k0_off2 (grid0.coords t)) ![1, 2888, 255] (k0_off2_inb (grid0.coords t) h)) (fun _ => rfl)).squeeze S2888x255 squeezes_S1x2888x255_S2888x255 = rhalf (Ring.sl 3 (t.val + 2)) 0 :=
  canon2 t h
set_option synthInstance.maxSize 4096 in
theorem coff3 : ∀ t : Fin grid0.N, cStart (grid0.coords t) → k0_off3 (grid0.coords t) = ![2888 * (0 : Fin 2).val, (Ring.bk 32 (t.val + 2)).val, 0] := by decide +kernel
@[sl_canon] theorem canon3 (t : Fin grid0.N) (h : cStart (grid0.coords t)) :
    (pHbm.slice (Rect.unit (s := S5776x32x255) (k0_off3 (grid0.coords t)) S2888x1x255.size (k0_off3_inb (grid0.coords t) h)) (fun _ => rfl)).squeeze S2888x255 squeezes_S2888x1x255_S2888x255 = rsrc (Ring.bk 32 (t.val + 2)) 0 :=
  congrArg (fun M : Memref sig .tc .hbm S2888x1x255 .f32 => M.squeeze S2888x255 squeezes_S2888x1x255_S2888x255) (Memref.slice_unit_congr _ (coff3 t h) _ _ (fun _ => rfl) (fun _ => rfl))
@[sl_canon] theorem canon3' (t : Fin grid0.N) (h : cStart (grid0.coords t)) :
    (pHbm.slice (Rect.unit (s := S5776x32x255) (k0_off3 (grid0.coords t)) ![2888, 1, 255] (k0_off3_inb (grid0.coords t) h)) (fun _ => rfl)).squeeze S2888x255 squeezes_S2888x1x255_S2888x255 = rsrc (Ring.bk 32 (t.val + 2)) 0 :=
  canon3 t h
set_option synthInstance.maxSize 4096 in
theorem coff4 : ∀ t : Fin grid0.N, cStart (grid0.coords t) → k0_off4 (grid0.coords t) = ![(Ring.sl 3 (t.val + 2)).val, (1 : Fin 2).val] := by decide +kernel
@[sl_canon] theorem canon4 (t : Fin grid0.N) (h : cStart (grid0.coords t)) :
    (cc0_scratch2.slice (Rect.unit (s := S3x2) (k0_off4 (grid0.coords t)) S1x1.size (k0_off4_inb (grid0.coords t) h))).squeeze S_ squeezes_S1x1_S_ = rcell (Ring.sl 3 (t.val + 2)) 1 :=
  congrArg (fun A : DmaSems sig S1x1 => A.squeeze S_ squeezes_S1x1_S_) (SemArray.slice_unit_congr _ (coff4 t h) _ _)
@[sl_canon] theorem canon4' (t : Fin grid0.N) (h : cStart (grid0.coords t)) :
    (cc0_scratch2.slice (Rect.unit (s := S3x2) (k0_off4 (grid0.coords t)) ![1, 1] (k0_off4_inb (grid0.coords t) h))).squeeze S_ squeezes_S1x1_S_ = rcell (Ring.sl 3 (t.val + 2)) 1 :=
  canon4 t h
set_option synthInstance.maxSize 4096 in
theorem coff5 : ∀ t : Fin grid0.N, cStart (grid0.coords t) → k0_off5 (grid0.coords t) = ![(Ring.sl 3 (t.val + 2)).val, 2888 * (1 : Fin 2).val, 0] := by decide +kernel
@[sl_canon] theorem canon5 (t : Fin grid0.N) (h : cStart (grid0.coords t)) :
    (xbuf.slice (Rect.unit (s := S3x5776x255) (k0_off5 (grid0.coords t)) S1x2888x255.size (k0_off5_inb (grid0.coords t) h)) (fun _ => rfl)).squeeze S2888x255 squeezes_S1x2888x255_S2888x255 = rhalf (Ring.sl 3 (t.val + 2)) 1 :=
  congrArg (fun M : Memref sig .tc .vmem S1x2888x255 .f32 => M.squeeze S2888x255 squeezes_S1x2888x255_S2888x255) (Memref.slice_unit_congr _ (coff5 t h) _ _ (fun _ => rfl) (fun _ => rfl))
@[sl_canon] theorem canon5' (t : Fin grid0.N) (h : cStart (grid0.coords t)) :
    (xbuf.slice (Rect.unit (s := S3x5776x255) (k0_off5 (grid0.coords t)) ![1, 2888, 255] (k0_off5_inb (grid0.coords t) h)) (fun _ => rfl)).squeeze S2888x255 squeezes_S1x2888x255_S2888x255 = rhalf (Ring.sl 3 (t.val + 2)) 1 :=
  canon5 t h
set_option synthInstance.maxSize 4096 in
theorem coff6 : ∀ t : Fin grid0.N, cStart (grid0.coords t) → k0_off6 (grid0.coords t) = ![2888 * (1 : Fin 2).val, (Ring.bk 32 (t.val + 2)).val, 0] := by decide +kernel
@[sl_canon] theorem canon6 (t : Fin grid0.N) (h : cStart (grid0.coords t)) :
    (pHbm.slice (Rect.unit (s := S5776x32x255) (k0_off6 (grid0.coords t)) S2888x1x255.size (k0_off6_inb (grid0.coords t) h)) (fun _ => rfl)).squeeze S2888x255 squeezes_S2888x1x255_S2888x255 = rsrc (Ring.bk 32 (t.val + 2)) 1 :=
  congrArg (fun M : Memref sig .tc .hbm S2888x1x255 .f32 => M.squeeze S2888x255 squeezes_S2888x1x255_S2888x255) (Memref.slice_unit_congr _ (coff6 t h) _ _ (fun _ => rfl) (fun _ => rfl))
@[sl_canon] theorem canon6' (t : Fin grid0.N) (h : cStart (grid0.coords t)) :
    (pHbm.slice (Rect.unit (s := S5776x32x255) (k0_off6 (grid0.coords t)) ![2888, 1, 255] (k0_off6_inb (grid0.coords t) h)) (fun _ => rfl)).squeeze S2888x255 squeezes_S2888x1x255_S2888x255 = rsrc (Ring.bk 32 (t.val + 2)) 1 :=
  canon6 t h
set_option synthInstance.maxSize 4096 in
theorem coff7 : ∀ t : Fin grid0.N, k0_off7 (grid0.coords t) = ![(Ring.sl 3 t.val).val, (0 : Fin 2).val] := by decide +kernel
@[sl_canon] theorem canon7 (t : Fin grid0.N) :
    (cc0_scratch2.slice (Rect.unit (s := S3x2) (k0_off7 (grid0.coords t)) S1x1.size (k0_off7_inb (grid0.coords t)))).squeeze S_ squeezes_S1x1_S_ = rcell (Ring.sl 3 t.val) 0 :=
  congrArg (fun A : DmaSems sig S1x1 => A.squeeze S_ squeezes_S1x1_S_) (SemArray.slice_unit_congr _ (coff7 t) _ _)
@[sl_canon] theorem canon7' (t : Fin grid0.N) :
    (cc0_scratch2.slice (Rect.unit (s := S3x2) (k0_off7 (grid0.coords t)) ![1, 1] (k0_off7_inb (grid0.coords t)))).squeeze S_ squeezes_S1x1_S_ = rcell (Ring.sl 3 t.val) 0 :=
  canon7 t
set_option synthInstance.maxSize 4096 in
theorem coff8 : ∀ t : Fin grid0.N, k0_off8 (grid0.coords t) = ![(Ring.sl 3 t.val).val, 2888 * (0 : Fin 2).val, 0] := by decide +kernel
@[sl_canon] theorem canon8 (t : Fin grid0.N) :
    (xbuf.slice (Rect.unit (s := S3x5776x255) (k0_off8 (grid0.coords t)) S1x2888x255.size (k0_off8_inb (grid0.coords t))) (fun _ => rfl)).squeeze S2888x255 squeezes_S1x2888x255_S2888x255 = rhalf (Ring.sl 3 t.val) 0 :=
  congrArg (fun M : Memref sig .tc .vmem S1x2888x255 .f32 => M.squeeze S2888x255 squeezes_S1x2888x255_S2888x255) (Memref.slice_unit_congr _ (coff8 t) _ _ (fun _ => rfl) (fun _ => rfl))
@[sl_canon] theorem canon8' (t : Fin grid0.N) :
    (xbuf.slice (Rect.unit (s := S3x5776x255) (k0_off8 (grid0.coords t)) ![1, 2888, 255] (k0_off8_inb (grid0.coords t))) (fun _ => rfl)).squeeze S2888x255 squeezes_S1x2888x255_S2888x255 = rhalf (Ring.sl 3 t.val) 0 :=
  canon8 t
set_option synthInstance.maxSize 4096 in
theorem coff9 : ∀ t : Fin grid0.N, k0_off9 (grid0.coords t) = ![2888 * (0 : Fin 2).val, (Ring.bk 32 t.val).val, 0] := by decide +kernel
@[sl_canon] theorem canon9 (t : Fin grid0.N) :
    (pHbm.slice (Rect.unit (s := S5776x32x255) (k0_off9 (grid0.coords t)) S2888x1x255.size (k0_off9_inb (grid0.coords t))) (fun _ => rfl)).squeeze S2888x255 squeezes_S2888x1x255_S2888x255 = rsrc (Ring.bk 32 t.val) 0 :=
  congrArg (fun M : Memref sig .tc .hbm S2888x1x255 .f32 => M.squeeze S2888x255 squeezes_S2888x1x255_S2888x255) (Memref.slice_unit_congr _ (coff9 t) _ _ (fun _ => rfl) (fun _ => rfl))
@[sl_canon] theorem canon9' (t : Fin grid0.N) :
    (pHbm.slice (Rect.unit (s := S5776x32x255) (k0_off9 (grid0.coords t)) ![2888, 1, 255] (k0_off9_inb (grid0.coords t))) (fun _ => rfl)).squeeze S2888x255 squeezes_S2888x1x255_S2888x255 = rsrc (Ring.bk 32 t.val) 0 :=
  canon9 t
set_option synthInstance.maxSize 4096 in
theorem coff10 : ∀ t : Fin grid0.N, k0_off10 (grid0.coords t) = ![(Ring.sl 3 t.val).val, (1 : Fin 2).val] := by decide +kernel
@[sl_canon] theorem canon10 (t : Fin grid0.N) :
    (cc0_scratch2.slice (Rect.unit (s := S3x2) (k0_off10 (grid0.coords t)) S1x1.size (k0_off10_inb (grid0.coords t)))).squeeze S_ squeezes_S1x1_S_ = rcell (Ring.sl 3 t.val) 1 :=
  congrArg (fun A : DmaSems sig S1x1 => A.squeeze S_ squeezes_S1x1_S_) (SemArray.slice_unit_congr _ (coff10 t) _ _)
@[sl_canon] theorem canon10' (t : Fin grid0.N) :
    (cc0_scratch2.slice (Rect.unit (s := S3x2) (k0_off10 (grid0.coords t)) ![1, 1] (k0_off10_inb (grid0.coords t)))).squeeze S_ squeezes_S1x1_S_ = rcell (Ring.sl 3 t.val) 1 :=
  canon10 t
set_option synthInstance.maxSize 4096 in
theorem coff11 : ∀ t : Fin grid0.N, k0_off11 (grid0.coords t) = ![(Ring.sl 3 t.val).val, 2888 * (1 : Fin 2).val, 0] := by decide +kernel
@[sl_canon] theorem canon11 (t : Fin grid0.N) :
    (xbuf.slice (Rect.unit (s := S3x5776x255) (k0_off11 (grid0.coords t)) S1x2888x255.size (k0_off11_inb (grid0.coords t))) (fun _ => rfl)).squeeze S2888x255 squeezes_S1x2888x255_S2888x255 = rhalf (Ring.sl 3 t.val) 1 :=
  congrArg (fun M : Memref sig .tc .vmem S1x2888x255 .f32 => M.squeeze S2888x255 squeezes_S1x2888x255_S2888x255) (Memref.slice_unit_congr _ (coff11 t) _ _ (fun _ => rfl) (fun _ => rfl))
@[sl_canon] theorem canon11' (t : Fin grid0.N) :
    (xbuf.slice (Rect.unit (s := S3x5776x255) (k0_off11 (grid0.coords t)) ![1, 2888, 255] (k0_off11_inb (grid0.coords t))) (fun _ => rfl)).squeeze S2888x255 squeezes_S1x2888x255_S2888x255 = rhalf (Ring.sl 3 t.val) 1 :=
  canon11 t
set_option synthInstance.maxSize 4096 in
theorem coff12 : ∀ t : Fin grid0.N, k0_off12 (grid0.coords t) = ![2888 * (1 : Fin 2).val, (Ring.bk 32 t.val).val, 0] := by decide +kernel
@[sl_canon] theorem canon12 (t : Fin grid0.N) :
    (pHbm.slice (Rect.unit (s := S5776x32x255) (k0_off12 (grid0.coords t)) S2888x1x255.size (k0_off12_inb (grid0.coords t))) (fun _ => rfl)).squeeze S2888x255 squeezes_S2888x1x255_S2888x255 = rsrc (Ring.bk 32 t.val) 1 :=
  congrArg (fun M : Memref sig .tc .hbm S2888x1x255 .f32 => M.squeeze S2888x255 squeezes_S2888x1x255_S2888x255) (Memref.slice_unit_congr _ (coff12 t) _ _ (fun _ => rfl) (fun _ => rfl))
@[sl_canon] theorem canon12' (t : Fin grid0.N) :
    (pHbm.slice (Rect.unit (s := S5776x32x255) (k0_off12 (grid0.coords t)) ![2888, 1, 255] (k0_off12_inb (grid0.coords t))) (fun _ => rfl)).squeeze S2888x255 squeezes_S2888x1x255_S2888x255 = rsrc (Ring.bk 32 t.val) 1 :=
  canon12 t
set_option synthInstance.maxSize 4096 in
theorem coff13 : ∀ t : Fin grid0.N, cWait (grid0.coords t) → k0_off13 (grid0.coords t) = ![(Ring.sl 3 t.val).val] := by decide +kernel
@[sl_canon] theorem canon13 (t : Fin grid0.N) (h : cWait (grid0.coords t)) :
    (cc0_scratch3.slice (Rect.unit (s := S3) (k0_off13 (grid0.coords t)) S1.size (k0_off13_inb (grid0.coords t) h))).squeeze S_ squeezes_S1_S_ = wcell (Ring.sl 3 t.val) :=
  congrArg (fun A : DmaSems sig S1 => A.squeeze S_ squeezes_S1_S_) (SemArray.slice_unit_congr _ (coff13 t h) _ _)
@[sl_canon] theorem canon13' (t : Fin grid0.N) (h : cWait (grid0.coords t)) :
    (cc0_scratch3.slice (Rect.unit (s := S3) (k0_off13 (grid0.coords t)) ![1] (k0_off13_inb (grid0.coords t) h))).squeeze S_ squeezes_S1_S_ = wcell (Ring.sl 3 t.val) :=
  canon13 t h
set_option synthInstance.maxSize 4096 in
theorem coff14 : ∀ t : Fin grid0.N, cWait (grid0.coords t) → k0_off14 (grid0.coords t) = ![0, (Ring.bk 32 (t.val - 3)).val, 0] := by decide +kernel
@[sl_canon] theorem canon14 (t : Fin grid0.N) (h : cWait (grid0.coords t)) :
    (oHbm.slice (Rect.unit (s := S85x32x17328) (k0_off14 (grid0.coords t)) S85x1x17328.size (k0_off14_inb (grid0.coords t) h)) (fun _ => rfl)).squeeze S85x17328 squeezes_S85x1x17328_S85x17328 = wpiece (Ring.bk 32 (t.val - 3)) :=
  congrArg (fun M : Memref sig .tc .hbm S85x1x17328 .f32 => M.squeeze S85x17328 squeezes_S85x1x17328_S85x17328) (Memref.slice_unit_congr _ (coff14 t h) _ _ (fun _ => rfl) (fun _ => rfl))
@[sl_canon] theorem canon14' (t : Fin grid0.N) (h : cWait (grid0.coords t)) :
    (oHbm.slice (Rect.unit (s := S85x32x17328) (k0_off14 (grid0.coords t)) ![85, 1, 17328] (k0_off14_inb (grid0.coords t) h)) (fun _ => rfl)).squeeze S85x17328 squeezes_S85x1x17328_S85x17328 = wpiece (Ring.bk 32 (t.val - 3)) :=
  canon14 t h
set_option synthInstance.maxSize 4096 in
theorem coff15 : ∀ t : Fin grid0.N, cWait (grid0.coords t) → k0_off15 (grid0.coords t) = ![(Ring.sl 3 t.val).val, 0, 0] := by decide +kernel
@[sl_canon] theorem canon15 (t : Fin grid0.N) (h : cWait (grid0.coords t)) :
    (tbuf.slice (Rect.unit (s := S3x85x17328) (k0_off15 (grid0.coords t)) S1x85x17328.size (k0_off15_inb (grid0.coords t) h)) (fun _ => rfl)).squeeze S85x17328 squeezes_S1x85x17328_S85x17328 = wtile (Ring.sl 3 t.val) :=
  congrArg (fun M : Memref sig .tc .vmem S1x85x17328 .f32 => M.squeeze S85x17328 squeezes_S1x85x17328_S85x17328) (Memref.slice_unit_congr _ (coff15 t h) _ _ (fun _ => rfl) (fun _ => rfl))
@[sl_canon] theorem canon15' (t : Fin grid0.N) (h : cWait (grid0.coords t)) :
    (tbuf.slice (Rect.unit (s := S3x85x17328) (k0_off15 (grid0.coords t)) ![1, 85, 17328] (k0_off15_inb (grid0.coords t) h)) (fun _ => rfl)).squeeze S85x17328 squeezes_S1x85x17328_S85x17328 = wtile (Ring.sl 3 t.val) :=
  canon15 t h
set_option synthInstance.maxSize 4096 in
theorem coff23 : ∀ t : Fin grid0.N, k0_off23 (grid0.coords t) = ![(Ring.sl 3 t.val).val] := by decide +kernel
@[sl_canon] theorem canon23 (t : Fin grid0.N) :
    (cc0_scratch3.slice (Rect.unit (s := S3) (k0_off23 (grid0.coords t)) S1.size (k0_off23_inb (grid0.coords t)))).squeeze S_ squeezes_S1_S_ = wcell (Ring.sl 3 t.val) :=
  congrArg (fun A : DmaSems sig S1 => A.squeeze S_ squeezes_S1_S_) (SemArray.slice_unit_congr _ (coff23 t) _ _)
@[sl_canon] theorem canon23' (t : Fin grid0.N) :
    (cc0_scratch3.slice (Rect.unit (s := S3) (k0_off23 (grid0.coords t)) ![1] (k0_off23_inb (grid0.coords t)))).squeeze S_ squeezes_S1_S_ = wcell (Ring.sl 3 t.val) :=
  canon23 t
set_option synthInstance.maxSize 4096 in
theorem coff24 : ∀ t : Fin grid0.N, k0_off24 (grid0.coords t) = ![0, (Ring.bk 32 t.val).val, 0] := by decide +kernel
@[sl_canon] theorem canon24 (t : Fin grid0.N) :
    (oHbm.slice (Rect.unit (s := S85x32x17328) (k0_off24 (grid0.coords t)) S85x1x17328.size (k0_off24_inb (grid0.coords t))) (fun _ => rfl)).squeeze S85x17328 squeezes_S85x1x17328_S85x17328 = wpiece (Ring.bk 32 t.val) :=
  congrArg (fun M : Memref sig .tc .hbm S85x1x17328 .f32 => M.squeeze S85x17328 squeezes_S85x1x17328_S85x17328) (Memref.slice_unit_congr _ (coff24 t) _ _ (fun _ => rfl) (fun _ => rfl))
@[sl_canon] theorem canon24' (t : Fin grid0.N) :
    (oHbm.slice (Rect.unit (s := S85x32x17328) (k0_off24 (grid0.coords t)) ![85, 1, 17328] (k0_off24_inb (grid0.coords t))) (fun _ => rfl)).squeeze S85x17328 squeezes_S85x1x17328_S85x17328 = wpiece (Ring.bk 32 t.val) :=
  canon24 t
set_option synthInstance.maxSize 4096 in
theorem coff25 : ∀ t : Fin grid0.N, k0_off25 (grid0.coords t) = ![(Ring.sl 3 t.val).val, 0, 0] := by decide +kernel
@[sl_canon] theorem canon25 (t : Fin grid0.N) :
    (tbuf.slice (Rect.unit (s := S3x85x17328) (k0_off25 (grid0.coords t)) S1x85x17328.size (k0_off25_inb (grid0.coords t))) (fun _ => rfl)).squeeze S85x17328 squeezes_S1x85x17328_S85x17328 = wtile (Ring.sl 3 t.val) :=
  congrArg (fun M : Memref sig .tc .vmem S1x85x17328 .f32 => M.squeeze S85x17328 squeezes_S1x85x17328_S85x17328) (Memref.slice_unit_congr _ (coff25 t) _ _ (fun _ => rfl) (fun _ => rfl))
@[sl_canon] theorem canon25' (t : Fin grid0.N) :
    (tbuf.slice (Rect.unit (s := S3x85x17328) (k0_off25 (grid0.coords t)) ![1, 85, 17328] (k0_off25_inb (grid0.coords t))) (fun _ => rfl)).squeeze S85x17328 squeezes_S1x85x17328_S85x17328 = wtile (Ring.sl 3 t.val) :=
  canon25 t
set_option synthInstance.maxSize 4096 in
theorem coff16 : ∀ t : Fin grid0.N, k0_off16 (grid0.coords t) = ![(Ring.sl 3 t.val).val, 0, 0] := by decide +kernel
instance (priority := high) closedOff16 (t : Fin grid0.N) : ClosedOff (k0_off16 (grid0.coords t)) := ⟨![(Ring.sl 3 t.val).val, 0, 0], coff16 t⟩
set_option synthInstance.maxSize 4096 in
theorem coff17 : ∀ t : Fin grid0.N, k0_off17 (grid0.coords t) = ![(Ring.sl 3 t.val).val, 0, 0] := by decide +kernel
instance (priority := high) closedOff17 (t : Fin grid0.N) : ClosedOff (k0_off17 (grid0.coords t)) := ⟨![(Ring.sl 3 t.val).val, 0, 0], coff17 t⟩
set_option synthInstance.maxSize 4096 in
theorem coff18 : ∀ t : Fin grid0.N, k0_off18 (grid0.coords t) = ![(Ring.sl 3 t.val).val, 0, 0] := by decide +kernel
instance (priority := high) closedOff18 (t : Fin grid0.N) : ClosedOff (k0_off18 (grid0.coords t)) := ⟨![(Ring.sl 3 t.val).val, 0, 0], coff18 t⟩
set_option synthInstance.maxSize 4096 in
theorem coff19 : ∀ t : Fin grid0.N, k0_off19 (grid0.coords t) = ![(Ring.sl 3 t.val).val, 0, 5776] := by decide +kernel
instance (priority := high) closedOff19 (t : Fin grid0.N) : ClosedOff (k0_off19 (grid0.coords t)) := ⟨![(Ring.sl 3 t.val).val, 0, 5776], coff19 t⟩
set_option synthInstance.maxSize 4096 in
theorem coff20 : ∀ t : Fin grid0.N, k0_off20 (grid0.coords t) = ![(Ring.sl 3 t.val).val, 0, 5776] := by decide +kernel
instance (priority := high) closedOff20 (t : Fin grid0.N) : ClosedOff (k0_off20 (grid0.coords t)) := ⟨![(Ring.sl 3 t.val).val, 0, 5776], coff20 t⟩
set_option synthInstance.maxSize 4096 in
theorem coff21 : ∀ t : Fin grid0.N, k0_off21 (grid0.coords t) = ![(Ring.sl 3 t.val).val, 0, 11552] := by decide +kernel
instance (priority := high) closedOff21 (t : Fin grid0.N) : ClosedOff (k0_off21 (grid0.coords t)) := ⟨![(Ring.sl 3 t.val).val, 0, 11552], coff21 t⟩
set_option synthInstance.maxSize 4096 in
theorem coff22 : ∀ t : Fin grid0.N, k0_off22 (grid0.coords t) = ![(Ring.sl 3 t.val).val, 0, 11552] := by decide +kernel
instance (priority := high) closedOff22 (t : Fin grid0.N) : ClosedOff (k0_off22 (grid0.coords t)) := ⟨![(Ring.sl 3 t.val).val, 0, 11552], coff22 t⟩
/-- The first grid point. -/
def t0 : Fin grid0.N := ⟨0, by rw [N_0]; decide⟩
@[sl_canon] theorem first_rcell_0_0 : (cc0_scratch2.slice (Rect.unit (s := S3x2) ![0, 0] S1x1.size inb_S3x2_S1x1_0_0)).squeeze S_ squeezes_S1x1_S_ = rcell (Ring.sl 3 t0.val) 0 := rfl
@[sl_canon] theorem first_rhalf_0_0 : (xbuf.slice (Rect.unit (s := S3x5776x255) ![0, 0, 0] S1x2888x255.size inb_S3x5776x255_S1x2888x255_0_0_0) (fun _ => rfl)).squeeze S2888x255 squeezes_S1x2888x255_S2888x255 = rhalf (Ring.sl 3 t0.val) 0 := rfl
@[sl_canon] theorem first_rsrc_0_0 : (pHbm.slice (Rect.unit (s := S5776x32x255) ![0, 0, 0] S2888x1x255.size inb_S5776x32x255_S2888x1x255_0_0_0) (fun _ => rfl)).squeeze S2888x255 squeezes_S2888x1x255_S2888x255 = rsrc (Ring.bk 32 t0.val) 0 := rfl
@[sl_canon] theorem first_rcell_0_1 : (cc0_scratch2.slice (Rect.unit (s := S3x2) ![0, 1] S1x1.size inb_S3x2_S1x1_0_1)).squeeze S_ squeezes_S1x1_S_ = rcell (Ring.sl 3 t0.val) 1 := rfl
@[sl_canon] theorem first_rhalf_0_1 : (xbuf.slice (Rect.unit (s := S3x5776x255) ![0, 2888, 0] S1x2888x255.size inb_S3x5776x255_S1x2888x255_0_2888_0) (fun _ => rfl)).squeeze S2888x255 squeezes_S1x2888x255_S2888x255 = rhalf (Ring.sl 3 t0.val) 1 := rfl
@[sl_canon] theorem first_rsrc_0_1 : (pHbm.slice (Rect.unit (s := S5776x32x255) ![2888, 0, 0] S2888x1x255.size inb_S5776x32x255_S2888x1x255_2888_0_0) (fun _ => rfl)).squeeze S2888x255 squeezes_S2888x1x255_S2888x255 = rsrc (Ring.bk 32 t0.val) 1 := rfl
@[sl_canon] theorem first_rcell_1_0 : (cc0_scratch2.slice (Rect.unit (s := S3x2) ![1, 0] S1x1.size inb_S3x2_S1x1_1_0)).squeeze S_ squeezes_S1x1_S_ = rcell (Ring.sl 3 (t0.val + 1)) 0 := rfl
@[sl_canon] theorem first_rhalf_1_0 : (xbuf.slice (Rect.unit (s := S3x5776x255) ![1, 0, 0] S1x2888x255.size inb_S3x5776x255_S1x2888x255_1_0_0) (fun _ => rfl)).squeeze S2888x255 squeezes_S1x2888x255_S2888x255 = rhalf (Ring.sl 3 (t0.val + 1)) 0 := rfl
@[sl_canon] theorem first_rsrc_1_0 : (pHbm.slice (Rect.unit (s := S5776x32x255) ![0, 1, 0] S2888x1x255.size inb_S5776x32x255_S2888x1x255_0_1_0) (fun _ => rfl)).squeeze S2888x255 squeezes_S2888x1x255_S2888x255 = rsrc (Ring.bk 32 (t0.val + 1)) 0 := rfl
@[sl_canon] theorem first_rcell_1_1 : (cc0_scratch2.slice (Rect.unit (s := S3x2) ![1, 1] S1x1.size inb_S3x2_S1x1_1_1)).squeeze S_ squeezes_S1x1_S_ = rcell (Ring.sl 3 (t0.val + 1)) 1 := rfl
@[sl_canon] theorem first_rhalf_1_1 : (xbuf.slice (Rect.unit (s := S3x5776x255) ![1, 2888, 0] S1x2888x255.size inb_S3x5776x255_S1x2888x255_1_2888_0) (fun _ => rfl)).squeeze S2888x255 squeezes_S1x2888x255_S2888x255 = rhalf (Ring.sl 3 (t0.val + 1)) 1 := rfl
@[sl_canon] theorem first_rsrc_1_1 : (pHbm.slice (Rect.unit (s := S5776x32x255) ![2888, 1, 0] S2888x1x255.size inb_S5776x32x255_S2888x1x255_2888_1_0) (fun _ => rfl)).squeeze S2888x255 squeezes_S2888x1x255_S2888x255 = rsrc (Ring.bk 32 (t0.val + 1)) 1 := rfl
set_option synthInstance.maxSize 4096 in
theorem coff26 : ∀ t : Fin grid0.N, cLast (grid0.coords t) → k0_off26 (grid0.coords t) = ![(Ring.sl 3 t.val).val] := by decide +kernel
@[sl_canon] theorem canon26 (t : Fin grid0.N) (h : cLast (grid0.coords t)) :
    (cc0_scratch3.slice (Rect.unit (s := S3) (k0_off26 (grid0.coords t)) S1.size (k0_off26_inb (grid0.coords t) h))).squeeze S_ squeezes_S1_S_ = wcell (Ring.sl 3 t.val) :=
  congrArg (fun A : DmaSems sig S1 => A.squeeze S_ squeezes_S1_S_) (SemArray.slice_unit_congr _ (coff26 t h) _ _)
@[sl_canon] theorem canon26' (t : Fin grid0.N) (h : cLast (grid0.coords t)) :
    (cc0_scratch3.slice (Rect.unit (s := S3) (k0_off26 (grid0.coords t)) ![1] (k0_off26_inb (grid0.coords t) h))).squeeze S_ squeezes_S1_S_ = wcell (Ring.sl 3 t.val) :=
  canon26 t h
set_option synthInstance.maxSize 4096 in
theorem coff27 : ∀ t : Fin grid0.N, cLast (grid0.coords t) → k0_off27 (grid0.coords t) = ![0, (Ring.bk 32 t.val).val, 0] := by decide +kernel
@[sl_canon] theorem canon27 (t : Fin grid0.N) (h : cLast (grid0.coords t)) :
    (oHbm.slice (Rect.unit (s := S85x32x17328) (k0_off27 (grid0.coords t)) S85x1x17328.size (k0_off27_inb (grid0.coords t) h)) (fun _ => rfl)).squeeze S85x17328 squeezes_S85x1x17328_S85x17328 = wpiece (Ring.bk 32 t.val) :=
  congrArg (fun M : Memref sig .tc .hbm S85x1x17328 .f32 => M.squeeze S85x17328 squeezes_S85x1x17328_S85x17328) (Memref.slice_unit_congr _ (coff27 t h) _ _ (fun _ => rfl) (fun _ => rfl))
@[sl_canon] theorem canon27' (t : Fin grid0.N) (h : cLast (grid0.coords t)) :
    (oHbm.slice (Rect.unit (s := S85x32x17328) (k0_off27 (grid0.coords t)) ![85, 1, 17328] (k0_off27_inb (grid0.coords t) h)) (fun _ => rfl)).squeeze S85x17328 squeezes_S85x1x17328_S85x17328 = wpiece (Ring.bk 32 t.val) :=
  canon27 t h
set_option synthInstance.maxSize 4096 in
theorem coff28 : ∀ t : Fin grid0.N, cLast (grid0.coords t) → k0_off28 (grid0.coords t) = ![(Ring.sl 3 t.val).val, 0, 0] := by decide +kernel
@[sl_canon] theorem canon28 (t : Fin grid0.N) (h : cLast (grid0.coords t)) :
    (tbuf.slice (Rect.unit (s := S3x85x17328) (k0_off28 (grid0.coords t)) S1x85x17328.size (k0_off28_inb (grid0.coords t) h)) (fun _ => rfl)).squeeze S85x17328 squeezes_S1x85x17328_S85x17328 = wtile (Ring.sl 3 t.val) :=
  congrArg (fun M : Memref sig .tc .vmem S1x85x17328 .f32 => M.squeeze S85x17328 squeezes_S1x85x17328_S85x17328) (Memref.slice_unit_congr _ (coff28 t h) _ _ (fun _ => rfl) (fun _ => rfl))
@[sl_canon] theorem canon28' (t : Fin grid0.N) (h : cLast (grid0.coords t)) :
    (tbuf.slice (Rect.unit (s := S3x85x17328) (k0_off28 (grid0.coords t)) ![1, 85, 17328] (k0_off28_inb (grid0.coords t) h)) (fun _ => rfl)).squeeze S85x17328 squeezes_S1x85x17328_S85x17328 = wtile (Ring.sl 3 t.val) :=
  canon28 t h
set_option synthInstance.maxSize 4096 in
theorem coff29_2 : ∀ t : Fin grid0.N, cLast (grid0.coords t) → k0_off29 (grid0.coords t) 2#32 = ![(Ring.sl 3 (t.val + 2)).val] := by decide +kernel
@[sl_canon] theorem canon29_2 (t : Fin grid0.N) (h : cLast (grid0.coords t)) :
    (cc0_scratch3.slice (Rect.unit (s := S3) (k0_off29 (grid0.coords t) 2#32) S1.size (k0_off29_inb (grid0.coords t) h 1))).squeeze S_ squeezes_S1_S_ = wcell (Ring.sl 3 (t.val + 2)) :=
  congrArg (fun A : DmaSems sig S1 => A.squeeze S_ squeezes_S1_S_) (SemArray.slice_unit_congr _ (coff29_2 t h) _ _)
@[sl_canon] theorem canon29_2' (t : Fin grid0.N) (h : cLast (grid0.coords t)) :
    (cc0_scratch3.slice (Rect.unit (s := S3) (k0_off29 (grid0.coords t) 2#32) ![1] (k0_off29_inb (grid0.coords t) h 1))).squeeze S_ squeezes_S1_S_ = wcell (Ring.sl 3 (t.val + 2)) :=
  canon29_2 t h
set_option synthInstance.maxSize 4096 in
theorem coff31_2 : ∀ t : Fin grid0.N, cLast (grid0.coords t) → k0_off31 (grid0.coords t) 2#32 = ![(Ring.sl 3 (t.val + 2)).val, 0, 0] := by decide +kernel
@[sl_canon] theorem canon31_2 (t : Fin grid0.N) (h : cLast (grid0.coords t)) :
    (tbuf.slice (Rect.unit (s := S3x85x17328) (k0_off31 (grid0.coords t) 2#32) S1x85x17328.size (k0_off31_inb (grid0.coords t) h 1)) (fun _ => rfl)).squeeze S85x17328 squeezes_S1x85x17328_S85x17328 = wtile (Ring.sl 3 (t.val + 2)) :=
  congrArg (fun M : Memref sig .tc .vmem S1x85x17328 .f32 => M.squeeze S85x17328 squeezes_S1x85x17328_S85x17328) (Memref.slice_unit_congr _ (coff31_2 t h) _ _ (fun _ => rfl) (fun _ => rfl))
@[sl_canon] theorem canon31_2' (t : Fin grid0.N) (h : cLast (grid0.coords t)) :
    (tbuf.slice (Rect.unit (s := S3x85x17328) (k0_off31 (grid0.coords t) 2#32) ![1, 85, 17328] (k0_off31_inb (grid0.coords t) h 1)) (fun _ => rfl)).squeeze S85x17328 squeezes_S1x85x17328_S85x17328 = wtile (Ring.sl 3 (t.val + 2)) :=
  canon31_2 t h
set_option synthInstance.maxSize 4096 in
theorem coff30_2 : ∀ t : Fin grid0.N, cLast (grid0.coords t) → k0_off30 (grid0.coords t) 2#32 = ![0, (Ring.bk 32 (t.val - 2)).val, 0] := by decide +kernel
@[sl_canon] theorem canon30_2 (t : Fin grid0.N) (h : cLast (grid0.coords t)) :
    (oHbm.slice (Rect.unit (s := S85x32x17328) (k0_off30 (grid0.coords t) 2#32) S85x1x17328.size (k0_off30_inb (grid0.coords t) h 1)) (fun _ => rfl)).squeeze S85x17328 squeezes_S85x1x17328_S85x17328 = wpiece (Ring.bk 32 (t.val - 2)) :=
  congrArg (fun M : Memref sig .tc .hbm S85x1x17328 .f32 => M.squeeze S85x17328 squeezes_S85x1x17328_S85x17328) (Memref.slice_unit_congr _ (coff30_2 t h) _ _ (fun _ => rfl) (fun _ => rfl))
@[sl_canon] theorem canon30_2' (t : Fin grid0.N) (h : cLast (grid0.coords t)) :
    (oHbm.slice (Rect.unit (s := S85x32x17328) (k0_off30 (grid0.coords t) 2#32) ![85, 1, 17328] (k0_off30_inb (grid0.coords t) h 1)) (fun _ => rfl)).squeeze S85x17328 squeezes_S85x1x17328_S85x17328 = wpiece (Ring.bk 32 (t.val - 2)) :=
  canon30_2 t h
set_option synthInstance.maxSize 4096 in
theorem coff29_1 : ∀ t : Fin grid0.N, cLast (grid0.coords t) → k0_off29 (grid0.coords t) 1#32 = ![(Ring.sl 3 (t.val + 1)).val] := by decide +kernel
@[sl_canon] theorem canon29_1 (t : Fin grid0.N) (h : cLast (grid0.coords t)) :
    (cc0_scratch3.slice (Rect.unit (s := S3) (k0_off29 (grid0.coords t) 1#32) S1.size (k0_off29_inb (grid0.coords t) h 0))).squeeze S_ squeezes_S1_S_ = wcell (Ring.sl 3 (t.val + 1)) :=
  congrArg (fun A : DmaSems sig S1 => A.squeeze S_ squeezes_S1_S_) (SemArray.slice_unit_congr _ (coff29_1 t h) _ _)
@[sl_canon] theorem canon29_1' (t : Fin grid0.N) (h : cLast (grid0.coords t)) :
    (cc0_scratch3.slice (Rect.unit (s := S3) (k0_off29 (grid0.coords t) 1#32) ![1] (k0_off29_inb (grid0.coords t) h 0))).squeeze S_ squeezes_S1_S_ = wcell (Ring.sl 3 (t.val + 1)) :=
  canon29_1 t h
set_option synthInstance.maxSize 4096 in
theorem coff31_1 : ∀ t : Fin grid0.N, cLast (grid0.coords t) → k0_off31 (grid0.coords t) 1#32 = ![(Ring.sl 3 (t.val + 1)).val, 0, 0] := by decide +kernel
@[sl_canon] theorem canon31_1 (t : Fin grid0.N) (h : cLast (grid0.coords t)) :
    (tbuf.slice (Rect.unit (s := S3x85x17328) (k0_off31 (grid0.coords t) 1#32) S1x85x17328.size (k0_off31_inb (grid0.coords t) h 0)) (fun _ => rfl)).squeeze S85x17328 squeezes_S1x85x17328_S85x17328 = wtile (Ring.sl 3 (t.val + 1)) :=
  congrArg (fun M : Memref sig .tc .vmem S1x85x17328 .f32 => M.squeeze S85x17328 squeezes_S1x85x17328_S85x17328) (Memref.slice_unit_congr _ (coff31_1 t h) _ _ (fun _ => rfl) (fun _ => rfl))
@[sl_canon] theorem canon31_1' (t : Fin grid0.N) (h : cLast (grid0.coords t)) :
    (tbuf.slice (Rect.unit (s := S3x85x17328) (k0_off31 (grid0.coords t) 1#32) ![1, 85, 17328] (k0_off31_inb (grid0.coords t) h 0)) (fun _ => rfl)).squeeze S85x17328 squeezes_S1x85x17328_S85x17328 = wtile (Ring.sl 3 (t.val + 1)) :=
  canon31_1 t h
set_option synthInstance.maxSize 4096 in
theorem coff30_1 : ∀ t : Fin grid0.N, cLast (grid0.coords t) → k0_off30 (grid0.coords t) 1#32 = ![0, (Ring.bk 32 (t.val - 1)).val, 0] := by decide +kernel
@[sl_canon] theorem canon30_1 (t : Fin grid0.N) (h : cLast (grid0.coords t)) :
    (oHbm.slice (Rect.unit (s := S85x32x17328) (k0_off30 (grid0.coords t) 1#32) S85x1x17328.size (k0_off30_inb (grid0.coords t) h 0)) (fun _ => rfl)).squeeze S85x17328 squeezes_S85x1x17328_S85x17328 = wpiece (Ring.bk 32 (t.val - 1)) :=
  congrArg (fun M : Memref sig .tc .hbm S85x1x17328 .f32 => M.squeeze S85x17328 squeezes_S85x1x17328_S85x17328) (Memref.slice_unit_congr _ (coff30_1 t h) _ _ (fun _ => rfl) (fun _ => rfl))
@[sl_canon] theorem canon30_1' (t : Fin grid0.N) (h : cLast (grid0.coords t)) :
    (oHbm.slice (Rect.unit (s := S85x32x17328) (k0_off30 (grid0.coords t) 1#32) ![85, 1, 17328] (k0_off30_inb (grid0.coords t) h 0)) (fun _ => rfl)).squeeze S85x17328 squeezes_S85x1x17328_S85x17328 = wpiece (Ring.bk 32 (t.val - 1)) :=
  canon30_1 t h
end Canon

end Cert.KernelIdeal.Body

end
-- ==== Proof.Ker.Geometry.lean ====
/-
  The elements of the halves, slots, tiles and pieces: where each memref of the proof places its elements, what a copy in
  leaves in a half, what a copy out leaves in a piece, and how the halves of a slot make the slot.
-/
module

public import proofs.«01_k».proof.Proof.Ker.Names
public import Idealize.ShloMosaic.Lib.ValueLayout
public import Idealize.ShloMosaic.Lib.Writes

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

section Geometry
omit [FloatOps F]

/-- An index `(x, y)` matched with shape `[a, 1, b]` is `(x, 0, y)`. -/
theorem match_unit_middle {a b : ℕ} (h : (⟨2, ![a, b]⟩ : Shape).numel = (⟨3, ![a, 1, b]⟩ : Shape).numel) (x : Fin a) (y : Fin b) :
    Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

theorem rhalf_emb (s : Fin 3) (h : Fin 2) (x : Fin 2888) (y : Fin 255) :
    (rhalf s h).view.emb (ix2 x y) = (ix3 s ⟨2888 * h.val + x.val, by omega⟩ y : S3x5776x255.Idx) := by
  show (Rect.unit (s := S3x5776x255) ![s.val, 2888 * h.val, 0] S1x2888x255.size (inb_half s h)).emb
    (Shape.reshapeEquiv _ (ix2 x y)) = _
  rw [show Shape.reshapeEquiv _ (ix2 x y) = ix3 (⟨0, Nat.one_pos⟩ : Fin 1) x y from ValueIdx.reshapeEquiv_ix2_1ab _ x y]
  funext a; apply Fin.ext; fin_cases a
  · show s.val + 1 * 0 = s.val; omega
  · show 2888 * h.val + 1 * x.val = 2888 * h.val + x.val; omega
  · show 0 + 1 * y.val = y.val; omega

theorem rsrc_emb (b : Fin 32) (h : Fin 2) (x : Fin 2888) (y : Fin 255) :
    (rsrc b h).view.emb (ix2 x y) = (ix3 ⟨2888 * h.val + x.val, by omega⟩ b y : S5776x32x255.Idx) := by
  show (Rect.unit (s := S5776x32x255) ![2888 * h.val, b.val, 0] S2888x1x255.size (inb_src b h)).emb
    (Shape.reshapeEquiv _ (ix2 x y)) = _
  rw [show Shape.reshapeEquiv _ (ix2 x y) = ix3 x (⟨0, Nat.one_pos⟩ : Fin 1) y from match_unit_middle _ x y]
  funext a; apply Fin.ext; fin_cases a
  · show 2888 * h.val + 1 * x.val = 2888 * h.val + x.val; omega
  · show b.val + 1 * 0 = b.val; omega
  · show 0 + 1 * y.val = y.val; omega

theorem wtile_emb (s : Fin 3) (x : Fin 85) (y : Fin 17328) :
    (wtile s).view.emb (ix2 x y) = (ix3 s x y : S3x85x17328.Idx) := by
  show (Rect.unit (s := S3x85x17328) ![s.val, 0, 0] S1x85x17328.size (inb_tile s)).emb (Shape.reshapeEquiv _ (ix2 x y)) = _
  rw [show Shape.reshapeEquiv _ (ix2 x y) = ix3 (⟨0, Nat.one_pos⟩ : Fin 1) x y from ValueIdx.reshapeEquiv_ix2_1ab _ x y]
  funext a; apply Fin.ext; fin_cases a
  · show s.val + 1 * 0 = s.val; omega
  · show 0 + 1 * x.val = x.val; omega
  · show 0 + 1 * y.val = y.val; omega

theorem wpiece_emb (u : Fin 32) (x : Fin 85) (y : Fin 17328) :
    (wpiece u).view.emb (ix2 x y) = (ix3 x u y : S85x32x17328.Idx) := by
  show (Rect.unit (s := S85x32x17328) ![0, u.val, 0] S85x1x17328.size (inb_piece u)).emb (Shape.reshapeEquiv _ (ix2 x y)) = _
  rw [show Shape.reshapeEquiv _ (ix2 x y) = ix3 x (⟨0, Nat.one_pos⟩ : Fin 1) y from match_unit_middle _ x y]
  funext a; apply Fin.ext; fin_cases a
  · show 0 + 1 * x.val = x.val; omega
  · show u.val + 1 * 0 = u.val; omega
  · show 0 + 1 * y.val = y.val; omega

theorem idx2_eta {a b : ℕ} (j : (⟨2, ![a, b]⟩ : Shape).Idx) : ∃ (x : Fin a) (y : Fin b), j = ix2 x y :=
  ⟨j 0, j 1, by funext k; fin_cases k <;> rfl⟩

/-! ## The element sets -/

abbrev halfSet (s : Fin 3) (h : Fin 2) : Finset S3x5776x255.Idx := (Rect.unit (s := S3x5776x255) ![s.val, 2888 * h.val, 0] S1x2888x255.size (inb_half s h)).set
abbrev slotSet (s : Fin 3) : Finset S3x5776x255.Idx := (Rect.unit (s := S3x5776x255) ![s.val, 0, 0] S1x5776x255.size (inb_slot s)).set
abbrev srcSet (b : Fin 32) (h : Fin 2) : Finset S5776x32x255.Idx := (Rect.unit (s := S5776x32x255) ![2888 * h.val, b.val, 0] S2888x1x255.size (inb_src b h)).set
abbrev tileSet (s : Fin 3) : Finset S3x85x17328.Idx := (Rect.unit (s := S3x85x17328) ![s.val, 0, 0] S1x85x17328.size (inb_tile s)).set
abbrev pieceSet (u : Fin 32) : Finset S85x32x17328.Idx := (Rect.unit (s := S85x32x17328) ![0, u.val, 0] S85x1x17328.size (inb_piece u)).set

theorem rhalf_set (s : Fin 3) (h : Fin 2) : (rhalf s h).view.set = halfSet s h := by
  simp only [rhalf, Memref.view_squeeze, View.set_reshape]; exact View.set_slice_whole _ _
theorem rslot_set (s : Fin 3) : (rslot s).view.set = slotSet s := View.set_slice_whole _ _
theorem rsrc_set (b : Fin 32) (h : Fin 2) : (rsrc b h).view.set = srcSet b h := by
  simp only [rsrc, Memref.view_squeeze, View.set_reshape]; exact View.set_slice_whole _ _
theorem wtile_set (s : Fin 3) : (wtile s).view.set = tileSet s := by
  simp only [wtile, Memref.view_squeeze, View.set_reshape]; exact View.set_slice_whole _ _
theorem wpiece_set (u : Fin 32) : (wpiece u).view.set = pieceSet u := by
  simp only [wpiece, Memref.view_squeeze, View.set_reshape]; exact View.set_slice_whole _ _

theorem mem_halfSet (s : Fin 3) (h : Fin 2) (i : S3x5776x255.Idx) :
    i ∈ halfSet s h ↔ (i 0).val = s.val ∧ 2888 * h.val ≤ (i 1).val ∧ (i 1).val < 2888 * h.val + 2888 := by
  rw [Rect.mem_set_unit]
  constructor
  · intro H
    have h0 := H 0; have h1 := H 1
    simp at h0 h1; exact ⟨by omega, h1.1, by omega⟩
  · rintro ⟨h0, h1, h2⟩ a
    have := (i 2).isLt
    fin_cases a
    · show s.val ≤ (i 0).val ∧ (i 0).val < s.val + 1; omega
    · exact ⟨h1, h2⟩
    · exact ⟨Nat.zero_le _, by show (i 2).val < 0 + 255; have h : (i 2).val < 255 := (i 2).isLt; omega⟩
theorem mem_slotSet (s : Fin 3) (i : S3x5776x255.Idx) : i ∈ slotSet s ↔ (i 0).val = s.val := by
  rw [Rect.mem_set_unit]
  constructor
  · intro H; have h0 := H 0; simp at h0; omega
  · intro h0 a
    fin_cases a
    · show s.val ≤ (i 0).val ∧ (i 0).val < s.val + 1; omega
    · exact ⟨Nat.zero_le _, by show (i 1).val < 0 + 5776; have h : (i 1).val < 5776 := (i 1).isLt; omega⟩
    · exact ⟨Nat.zero_le _, by show (i 2).val < 0 + 255; have h : (i 2).val < 255 := (i 2).isLt; omega⟩
theorem mem_srcSet (b : Fin 32) (h : Fin 2) (i : S5776x32x255.Idx) :
    i ∈ srcSet b h ↔ (i 1).val = b.val ∧ 2888 * h.val ≤ (i 0).val ∧ (i 0).val < 2888 * h.val + 2888 := by
  rw [Rect.mem_set_unit]
  constructor
  · intro H
    have h0 := H 0; have h1 := H 1
    simp at h0 h1; exact ⟨by omega, h0.1, by omega⟩
  · rintro ⟨h0, h1, h2⟩ a
    fin_cases a
    · exact ⟨h1, h2⟩
    · show b.val ≤ (i 1).val ∧ (i 1).val < b.val + 1; omega
    · exact ⟨Nat.zero_le _, by show (i 2).val < 0 + 255; have h : (i 2).val < 255 := (i 2).isLt; omega⟩

theorem halves_disjoint (s : Fin 3) : Disjoint (halfSet s 0) (halfSet s 1) := by
  rw [Finset.disjoint_left]; intro i h0 h1
  rw [mem_halfSet] at h0 h1; simp at h0 h1; omega
theorem halves_cover (s : Fin 3) : halfSet s 0 ∪ halfSet s 1 = slotSet s := by
  ext i; rw [Finset.mem_union, mem_halfSet, mem_halfSet, mem_slotSet]
  have h : (i 1).val < 5776 := (i 1).isLt
  simp; omega
theorem srcs_disjoint (b : Fin 32) : Disjoint (srcSet b 0) (srcSet b 1) := by
  rw [Finset.disjoint_left]; intro i h0 h1
  rw [mem_srcSet] at h0 h1; simp at h0 h1; omega

theorem slots_disjoint (s s' : Fin 3) (h : s ≠ s') : Disjoint (slotSet s) (slotSet s') := by
  rw [Finset.disjoint_left]; intro i h0 h1
  rw [mem_slotSet] at h0 h1; exact h (Fin.ext (h0.symm.trans h1))
theorem slots_cover : Finset.univ.biUnion slotSet = Finset.univ := by
  ext i; simp only [Finset.mem_biUnion, Finset.mem_univ, true_and, iff_true]
  exact ⟨i 0, (mem_slotSet _ _).mpr rfl⟩
theorem tiles_disjoint (s s' : Fin 3) (h : s ≠ s') : Disjoint (tileSet s) (tileSet s') :=
  Ring.lead_disjoint (s := S3x85x17328) (0 : Fin 3) 1 (fun s : Fin 3 => (![s.val, 0, 0] : Fin 3 → Nat)) S1x85x17328.size inb_tile (fun s => by simp) rfl s s' h
theorem tiles_cover : Finset.univ.biUnion tileSet = Finset.univ :=
  Ring.lead_cover (s := S3x85x17328) (0 : Fin 3) 1 (fun s : Fin 3 => (![s.val, 0, 0] : Fin 3 → Nat)) S1x85x17328.size inb_tile (fun s => by simp)
    (fun s a ha => by fin_cases a <;> first | exact absurd rfl ha | rfl) rfl (fun a ha => by fin_cases a <;> first | exact absurd rfl ha | rfl) rfl
theorem pieces_disjoint (s s' : Fin 32) (h : s ≠ s') : Disjoint (pieceSet s) (pieceSet s') :=
  Ring.lead_disjoint (s := S85x32x17328) (1 : Fin 3) 1 (fun s : Fin 32 => (![0, s.val, 0] : Fin 3 → Nat)) S85x1x17328.size inb_piece (fun s => by simp) rfl s s' h
theorem pieces_cover : Finset.univ.biUnion pieceSet = Finset.univ :=
  Ring.lead_cover (s := S85x32x17328) (1 : Fin 3) 1 (fun s : Fin 32 => (![0, s.val, 0] : Fin 3 → Nat)) S85x1x17328.size inb_piece (fun s => by simp)
    (fun s a ha => by fin_cases a <;> first | exact absurd rfl ha | rfl) rfl (fun a ha => by fin_cases a <;> first | exact absurd rfl ha | rfl) rfl

/-! ## Contents -/

/-- What the input buffer's slots hold once block `b` of `W` landed: every slot spelt alike, position by channel. -/
def xblk (W : S5776x32x255.Idx → Elt F .f32) (b : Fin 32) : S3x5776x255.Idx → Elt F .f32 := fun i => W (ix3 (i 1) b (i 2))
/-- Block `b` as the body loads it. -/
def xrow (W : S5776x32x255.Idx → Elt F .f32) (b : Fin 32) : Vec F S1x5776x255 .f32 := fun j => W (ix3 (j 1) b (j 2))

/-- A buffer written through a whole view holds at the view's place of `x` the payload at `x`. -/
theorem written_whole {Val : EltTy → Type} {sp : Space} {s : Shape} {e : EltTy} (v : View sig .tc sp s e) (f : v.ty.Contents Val)
    (w : (Rect.whole s).shape.Idx → Val e) (x : s.Idx) (a : Val v.ty.elt) (ha : cast (congrArg Val v.elt_eq) a = w x) :
    v.writes Val f [⟨Rect.whole s, w⟩] (v.emb x) = a := by
  have hj := View.read_writes_cons_hit_of_coords (Val := Val) v f (Rect.whole s) w [] x x (fun a => by
    show (x a).val = 0 + 1 * (x a).val; omega)
  rw [View.read_apply, ← ha] at hj
  exact cast_inj _ |>.mp hj

/-- The copy of half `h` of block `b` leaves the block's elements in the half. -/
theorem landed_half (W : S5776x32x255.Idx → Elt F .f32) (s : Fin 3) (h : Fin 2) (b : Fin 32) (f : S3x5776x255.Idx → Elt F .f32) :
    ∀ i ∈ (rhalf s h).view.set,
      (rhalf s h).view.writes (Elt F) f [⟨Rect.whole S2888x255, ReadAs.same.apply ((rsrc b h).view.read (Elt F) W)⟩] i = xblk W b i := by
  intro i hi
  obtain ⟨j, -, rfl⟩ := Finset.mem_map.mp hi
  obtain ⟨x, y, rfl⟩ : ∃ (x : Fin 2888) (y : Fin 255), j = ix2 x y := idx2_eta j
  refine written_whole (rhalf s h).view f _ (ix2 x y) _ ?_
  show xblk W b _ = W ((rsrc b h).view.emb (ix2 x y))
  rw [rsrc_emb, rhalf_emb]; rfl

/-- A copy out of tile `s`, held at `e`, leaves the tile's elements in piece `u`. -/
theorem landed_piece (s : Fin 3) (u : Fin 32) (e : S3x85x17328.Idx → Elt F .f32) (f G : S85x32x17328.Idx → Elt F .f32)
    (he : ∀ (x : Fin 85) (y : Fin 17328), e (ix3 s x y) = G (ix3 x u y)) :
    ∀ i ∈ (wpiece u).view.set,
      (wpiece u).view.writes (Elt F) f [⟨Rect.whole S85x17328, ReadAs.same.apply ((wtile s).view.read (Elt F) e)⟩] i = G i := by
  intro i hi
  obtain ⟨j, -, rfl⟩ := Finset.mem_map.mp hi
  obtain ⟨x, y, rfl⟩ : ∃ (x : Fin 85) (y : Fin 17328), j = ix2 x y := idx2_eta j
  refine written_whole (wpiece u).view f _ (ix2 x y) _ ?_
  show G _ = e ((wtile s).view.emb (ix2 x y))
  rw [wtile_emb, wpiece_emb]; exact (he _ _).symm

end Geometry

end Cert.KernelIdeal.Body

end
-- ==== Proof.Ker.Held.lean ====
/-
  What the kernel holds between its steps: the slots of the input buffer free or being filled, the tiles of the output
  buffer free or being copied out, and the equivalences that take a slot apart into the halves its two copies fill.
-/
module

public import proofs.«01_k».proof.Proof.Ker.Geometry

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

omit [FloatOps F] in
theorem eq_entails {P Q : sProp 𝕄} (h : P = Q) : P ⊢ Q := by rw [h]

section Held
variable (c : Dev nD) (W : S5776x32x255.Idx → Elt F .f32)

/-! ## The input side -/

/-- Each slot borrows the input under its own share. -/
def qs (s : Fin 3) : PosShare TreeShare :=
  if s.val = 0 then fullShare.left else if s.val = 1 then fullShare.right.left else fullShare.right.right

abbrev slotPt (s : Fin 3) (f : S3x5776x255.Idx → Elt F .f32) : sProp 𝕄 :=
  (rslot s).view.loc (c : Thread nD τ) ↦[(rslot s).view.set]{fullShare} f
abbrev halfPt (s : Fin 3) (h : Fin 2) (f : S3x5776x255.Idx → Elt F .f32) : sProp 𝕄 :=
  (rhalf s h).view.loc (c : Thread nD τ) ↦[(rhalf s h).view.set]{fullShare} f
abbrev rcellPt (s : Fin 3) (h : Fin 2) : sProp 𝕄 := semVal ((c : Thread nD τ), rcellS s h) 0
abbrev srcPt (q : PosShare TreeShare) (b : Fin 32) (h : Fin 2) : sProp 𝕄 :=
  (rsrc b h).view.loc (c : Thread nD τ) ↦[(rsrc b h).view.set]{q} W
/-- The input outside block `b`. -/
def restPt (q : PosShare TreeShare) (b : Fin 32) : sProp 𝕄 :=
  ((c : Thread nD τ).loc main_v3) ↦[(Finset.univ \ (rsrc b 0).view.set) \ (rsrc b 1).view.set]{q} W
abbrev wholePt (q : PosShare TreeShare) : sProp 𝕄 := ((c : Thread nD τ).loc main_v3) ↦[Finset.univ]{q} W

/-- The copy of half `h` of block `b` into slot `s`, in flight. -/
abbrev rflight (s : Fin 3) (b : Fin 32) (h : Fin 2) : sProp 𝕄 :=
  Transfers.Flight countersEmb (c : Thread nD τ) (rcellS s h) default ((rhalf s h).view.amount (rcellS s h))
    iprop(halfPt c s h (xblk W b) ∗ srcPt c W (qs s) b h)
/-- Slot `s` free: its cells at zero, the slot held at anything, its share of the input whole. -/
def rfree (s : Fin 3) : sProp 𝕄 := iprop(rcellPt c s 0 ∗ rcellPt c s 1 ∗ (∃ f, slotPt c s f) ∗ wholePt c W (qs s))
/-- Slot `s` being filled with block `b`. -/
def rinfl (s : Fin 3) (b : Fin 32) : sProp 𝕄 := iprop(rflight c W s b 0 ∗ rflight c W s b 1 ∗ restPt c W (qs s) b)

omit [FloatOps F] in
theorem slot_halves (s : Fin 3) (f : S3x5776x255.Idx → Elt F .f32) :
    slotPt (F := F) c s f ⊣⊢ iprop(halfPt c s 0 f ∗ halfPt c s 1 f) := by
  unfold slotPt halfPt
  rw [rslot_set, rhalf_set, rhalf_set, ← halves_cover s]
  exact pointsTo_union (halves_disjoint s)

omit [FloatOps F] in
theorem whole_srcs (q : PosShare TreeShare) (b : Fin 32) :
    wholePt (F := F) c W q ⊣⊢ iprop(srcPt c W q b 0 ∗ srcPt c W q b 1 ∗ restPt c W q b) := by
  refine (pointsTo_split_subset (Finset.subset_univ (rsrc b 0).view.set)).trans ?_
  refine sep_congr BiEntails.rfl ?_
  unfold restPt
  refine pointsTo_split_subset ?_
  intro i hi
  refine Finset.mem_sdiff.mpr ⟨Finset.mem_univ _, fun h0 => ?_⟩
  rw [rsrc_set] at hi h0
  exact Finset.disjoint_left.mp (srcs_disjoint b) h0 hi

omit [FloatOps F] in
/-- A copy started into a half over anything is the copy in flight. -/
theorem rflight_intro (s : Fin 3) (b : Fin 32) (h : Fin 2) (f : S3x5776x255.Idx → Elt F .f32) :
    Transfers.Flight countersEmb (c : Thread nD τ) (rcellS s h) default ((rhalf s h).view.amount (rcellS s h))
        iprop(halfPt c s h ((rhalf s h).view.writes (Elt F) f [⟨Rect.whole S2888x255, ReadAs.same.apply ((rsrc b h).view.read (Elt F) W)⟩])
          ∗ srcPt c W (qs s) b h)
      ⊢ rflight c W s b h :=
  Transfers.Flight_mono _ _ (sep_mono (eq_entails (F := F) (pointsTo_congr (landed_half W s h b f))) .rfl)

/-! ## The output side -/

/-- What the kernel leaves in the output: the block step `u` writes, by the tile `T u` of that step. -/
def outOf (T : Fin 32 → Fin 85 → Fin 17328 → Elt F .f32) : S85x32x17328.Idx → Elt F .f32 := fun i => T (i 1) (i 0) (i 2)

variable (G : S85x32x17328.Idx → Elt F .f32)
abbrev tilePt (s : Fin 3) (e : S3x85x17328.Idx → Elt F .f32) : sProp 𝕄 :=
  (wtile s).view.loc (c : Thread nD τ) ↦[(wtile s).view.set]{fullShare} e
abbrev wcellPt (s : Fin 3) : sProp 𝕄 := semVal ((c : Thread nD τ), wcellS s) 0
abbrev piecePt (u : Fin 32) (f : S85x32x17328.Idx → Elt F .f32) : sProp 𝕄 :=
  (wpiece u).view.loc (c : Thread nD τ) ↦[(wpiece u).view.set]{fullShare} f
/-- Tile `s` free: its cell at zero, the tile held at anything. -/
def wfree (s : Fin 3) : sProp 𝕄 := iprop(wcellPt c s ∗ ∃ e, tilePt (F := F) c s e)
abbrev wflight (s : Fin 3) (u : Fin 32) (e : S3x85x17328.Idx → Elt F .f32) : sProp 𝕄 :=
  Transfers.Flight countersEmb (c : Thread nD τ) (wcellS s) default ((wpiece u).view.amount (wcellS s))
    iprop(piecePt c u G ∗ tilePt c s e)
/-- Tile `s` being copied out to piece `u`, which it fills with `G`. -/
def winfl (s : Fin 3) (u : Fin 32) : sProp 𝕄 := iprop(∃ e, wflight c G s u e)

omit [FloatOps F] in
/-- A copy started from a tile holding `G`'s piece is that copy in flight. -/
theorem wflight_intro (s : Fin 3) (u : Fin 32) (e : S3x85x17328.Idx → Elt F .f32) (f : S85x32x17328.Idx → Elt F .f32)
    (he : ∀ (x : Fin 85) (y : Fin 17328), e (ix3 s x y) = G (ix3 x u y)) :
    Transfers.Flight countersEmb (c : Thread nD τ) (wcellS s) default ((wpiece u).view.amount (wcellS s))
        iprop(piecePt c u ((wpiece u).view.writes (Elt F) f [⟨Rect.whole S85x17328, ReadAs.same.apply ((wtile s).view.read (Elt F) e)⟩])
          ∗ tilePt c s e)
      ⊢ wflight c G s u e :=
  Transfers.Flight_mono _ _ (sep_mono (eq_entails (F := F) (pointsTo_congr (landed_piece s u e f G he))) .rfl)

end Held

end Cert.KernelIdeal.Body

end
-- ==== Proof.Ker.Invariant.lean ====
/- What holds before each step of the grid: the input's ring of three slots two blocks ahead, the output's ring of three
   tiles three blocks behind. -/
module

public import proofs.«01_k».proof.Proof.Ker.Held

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

section Inv
variable (c : Dev nD) (W : S5776x32x255.Idx → Elt F .f32) (G : S85x32x17328.Idx → Elt F .f32)

/-- Slot `n mod 3` before step `n`: being filled with block `n`, or free when there is no such block. -/
def rrole (n : ℕ) : sProp 𝕄 := if n < 32 then rinfl c W (Ring.sl 3 n) (Ring.bk 32 n) else rfree c W (Ring.sl 3 n)
/-- The input side before step `k`: everything free before the first step; later, blocks `k` and `k + 1` under way and one slot free. -/
def readAt (k : ℕ) : sProp 𝕄 :=
  if k = 0 then iprop(rfree c W (Ring.sl 3 k) ∗ rfree c W (Ring.sl 3 (k + 1)) ∗ rfree c W (Ring.sl 3 (k + 2)))
  else iprop(rrole c W k ∗ rrole c W (k + 1) ∗ rfree c W (Ring.sl 3 (k + 2)))
/-- Tile `n mod 3` before step `n`: free, or still carrying the block of step `n - 3`. -/
def wrole (n : ℕ) : sProp 𝕄 := if n < 3 then wfree (F := F) c (Ring.sl 3 n) else winfl c G (Ring.sl 3 n) (Ring.bk 32 (n - 3))
/-- The blocks of the output not yet written before step `k`, -/
def aheadAt (k : ℕ) : sProp 𝕄 := bigSep (Ring.aheadSet (NB := 32) k) fun u => iprop(∃ f, piecePt (F := F) c u f)
/-- and those already landed. -/
def behindAt (k : ℕ) : sProp 𝕄 := bigSep (Ring.behindSet (NB := 32) 3 k) fun u => piecePt c u G
/-- The output side before step `k`. -/
def writeAt (k : ℕ) : sProp 𝕄 := iprop(wrole c G k ∗ wrole c G (k + 1) ∗ wrole c G (k + 2) ∗ aheadAt c k ∗ behindAt c G k)
/-- What step `t` leaves alone on the output side. -/
def keepAt (k : ℕ) : sProp 𝕄 := iprop(wrole c G (k + 1) ∗ wrole c G (k + 2) ∗ aheadAt c (k + 1) ∗ behindAt c G k)
/-- The output side after the last step: every tile free, every block landed. -/
def writeEnd : sProp 𝕄 := iprop(wfree (F := F) c 0 ∗ wfree (F := F) c 1 ∗ wfree (F := F) c 2 ∗ bigSep Finset.univ fun u : Fin 32 => piecePt c u G)
def writeOrEnd (k : ℕ) : sProp 𝕄 := if k < 32 then writeAt c G k else writeEnd c G
/-- The block step `t` finds landed. -/
def backAt (k : ℕ) : sProp 𝕄 := if 3 ≤ k then piecePt c (Ring.bk 32 (k - 3)) G else iprop(⌜True⌝)

omit [FloatOps F] in
theorem readAt_zero (k : ℕ) (h : k = 0) : readAt c W k = iprop(rfree c W (Ring.sl 3 k) ∗ rfree c W (Ring.sl 3 (k + 1)) ∗ rfree c W (Ring.sl 3 (k + 2))) := if_pos h
omit [FloatOps F] in
theorem readAt_pos (k : ℕ) (h : k ≠ 0) : readAt c W k = iprop(rrole c W k ∗ rrole c W (k + 1) ∗ rfree c W (Ring.sl 3 (k + 2))) := if_neg h
omit [FloatOps F] in
theorem rrole_lt (k : ℕ) (h : k < 32) : rrole c W k = rinfl c W (Ring.sl 3 k) (Ring.bk 32 k) := if_pos h
omit [FloatOps F] in
theorem rrole_ge (k : ℕ) (h : ¬k < 32) : rrole c W k = rfree c W (Ring.sl 3 k) := if_neg h
omit [FloatOps F] in
theorem wrole_lt (k : ℕ) (h : k < 3) : wrole c G k = wfree (F := F) c (Ring.sl 3 k) := if_pos h
omit [FloatOps F] in
theorem wrole_ge (k : ℕ) (h : ¬k < 3) : wrole c G k = winfl c G (Ring.sl 3 k) (Ring.bk 32 (k - 3)) := if_neg h
omit [FloatOps F] in
theorem backAt_ge (k : ℕ) (h : 3 ≤ k) : backAt c G k = piecePt c (Ring.bk 32 (k - 3)) G := if_pos h
omit [FloatOps F] in
theorem backAt_lt (k : ℕ) (h : ¬3 ≤ k) : backAt c G k = iprop(⌜True⌝) := if_neg h

omit [FloatOps F] in
/-- Step `k`'s own tile and block taken off the output side. -/
theorem writeAt_open (k : ℕ) (h : k < 32) :
    writeAt c G k ⊢ iprop(wrole c G k ∗ (∃ f, piecePt (F := F) c (Ring.bk 32 k) f) ∗ keepAt c G k) := by
  unfold writeAt keepAt
  have e : aheadAt (F := F) c k = iprop((∃ f, piecePt (F := F) c (Ring.bk 32 k) f) ∗ aheadAt (F := F) c (k + 1)) := by
    unfold aheadAt
    rw [Ring.aheadSet_open k h]
    exact bigSep_insert (Ring.bk_not_mem_aheadSet_succ k h)
  rw [e]
  iintro ⟨H0, H1, H2, ⟨Hp, Ha⟩, Hb⟩
  isplitl [H0]; · iexact H0
  isplitl [Hp]; · iexact Hp
  isplitl [H1]; · iexact H1
  isplitl [H2]; · iexact H2
  isplitl [Ha]; · iexact Ha
  iexact Hb

omit [FloatOps F] in
/-- The landed block of step `k - 3` joins the others. -/
theorem behindAt_close (k : ℕ) (h : k < 32) : iprop(backAt c G k ∗ behindAt c G k) ⊢ behindAt c G (k + 1) := by
  by_cases h3 : 3 ≤ k
  · rw [backAt_ge c G k h3]
    have e : behindAt c G (k + 1) = iprop(piecePt c (Ring.bk 32 (k - 3)) G ∗ behindAt c G k) := by
      unfold behindAt
      rw [Ring.behindSet_close 3 k h3 h]
      exact bigSep_insert (Ring.bk_not_mem_behindSet 3 k h3 h)
    rw [e]
  · rw [backAt_lt c G k h3]
    have e : behindAt c G (k + 1) = behindAt c G k := by
      unfold behindAt
      rw [Ring.behindSet_boot 3 k (by omega), Ring.behindSet_boot 3 (k + 1) (by omega)]
    rw [e]
    iintro ⟨-, H⟩; iexact H

omit [FloatOps F] in
/-- The output side before the next step. -/
theorem writeAt_close (k : ℕ) (h : k < 32) :
    iprop(winfl c G (Ring.sl 3 k) (Ring.bk 32 k) ∗ backAt c G k ∗ keepAt c G k) ⊢ writeAt c G (k + 1) := by
  unfold writeAt keepAt
  have e : wrole c G (k + 1 + 2) = winfl c G (Ring.sl 3 k) (Ring.bk 32 k) := by
    rw [wrole_ge c G _ (by omega), show k + 1 + 2 = k + 3 from rfl, Ring.sl_add 3 k, Nat.add_sub_cancel]
  rw [e, show k + 1 + 1 = k + 2 from rfl]
  iintro ⟨Hf, Hk, H1, H2, Ha, Hb⟩
  isplitl [H1]; · iexact H1
  isplitl [H2]; · iexact H2
  isplitl [Hf]; · iexact Hf
  isplitl [Ha]; · iexact Ha
  iapply (behindAt_close c G k h)
  isplitl [Hk]; · iexact Hk
  iexact Hb

omit [FloatOps F] in
/-- The last three blocks join the others, and every block has landed. -/
theorem landed_all :
    iprop(piecePt c (Ring.bk 32 31) G ∗ piecePt c (Ring.bk 32 30) G ∗ piecePt c (Ring.bk 32 29) G ∗ behindAt c G 32)
      ⊢ bigSep Finset.univ fun u : Fin 32 => piecePt c u G := by
  have e : (Finset.univ : Finset (Fin 32)) = insert (Ring.bk 32 31) (insert (Ring.bk 32 30) (insert (Ring.bk 32 29) (Ring.behindSet 3 32))) := by decide
  unfold behindAt
  rw [e]
  refine eq_entails (F := F) ?_
  rw [bigSep_insert (by decide), bigSep_insert (by decide), bigSep_insert (by decide)]
  rfl

omit [FloatOps F] in
/-- What the last step leaves alone: the copies of the two blocks before it, and the blocks landed. -/
theorem keepAt_last (k : ℕ) (h : k = 31) :
    keepAt c G k ⊢ iprop(winfl c G (Ring.sl 3 (k + 1)) (Ring.bk 32 (k - 2)) ∗ winfl c G (Ring.sl 3 (k + 2)) (Ring.bk 32 (k - 1)) ∗ behindAt c G k) := by
  unfold keepAt
  rw [wrole_ge c G (k + 1) (by omega), wrole_ge c G (k + 2) (by omega), show k + 1 - 3 = k - 2 by omega, show k + 2 - 3 = k - 1 by omega]
  iintro ⟨Ha, Hb, -, Hbeh⟩
  isplitl [Ha]; · iexact Ha
  isplitl [Hb]; · iexact Hb
  iexact Hbeh

omit [FloatOps F] in
/-- The last step's tiles and blocks make the output side after it. -/
theorem writeEnd_close (k : ℕ) (h : k = 31) :
    iprop((wfree (F := F) c (Ring.sl 3 k) ∗ piecePt c (Ring.bk 32 k) G) ∗ (wfree (F := F) c (Ring.sl 3 (k + 1)) ∗ piecePt c (Ring.bk 32 (k - 2)) G)
        ∗ (wfree (F := F) c (Ring.sl 3 (k + 2)) ∗ piecePt c (Ring.bk 32 (k - 1)) G) ∗ backAt c G k ∗ behindAt c G k) ⊢ writeEnd c G := by
  subst h
  iintro ⟨⟨Hf0, Hp0⟩, ⟨Hf1, Hp1⟩, ⟨Hf2, Hp2⟩, Hbk, Hbeh⟩
  ihave Hbeh := (behindAt_close c G 31 (by decide)) $$ [Hbk Hbeh]
  · isplitl [Hbk]; · iexact Hbk
    iexact Hbeh
  unfold writeEnd
  isplitl [Hf2]; · iexact Hf2
  isplitl [Hf0]; · iexact Hf0
  isplitl [Hf1]; · iexact Hf1
  iapply (landed_all c G)
  isplitl [Hp0]; · iexact Hp0
  isplitl [Hp2]; · iexact Hp2
  isplitl [Hp1]; · iexact Hp1
  iexact Hbeh

end Inv

end Cert.KernelIdeal.Body

end
-- ==== Proof.Ker.Rings.lean ====
/- The two rings made out of what the launch hands the region, and handed back after the last step. -/
module

public import proofs.«01_k».proof.Proof.Ker.Invariant

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

/-! ## What the launch hands the region, listed -/

/-- The body's own transfer semaphores: two per input slot, one per output tile. -/
abbrev osem0 : Fin 9 → SemLoc sig := fun j =>
  (![rcellS 0 0, rcellS 0 1, rcellS 1 0, rcellS 1 1, rcellS 2 0, rcellS 2 1, wcellS 0, wcellS 1, wcellS 2] : Fin 9 → SemLoc sig) j
theorem ownSemFacts0 : Pipeline.OwnSemFacts spec0 osem0 := by decide
/-- The body copies from the transposed predictions, -/
def H0 : Finset (Ref sig .tc) := {main_v3}
theorem H0_sub : H0 ⊆ Pipeline.restRefs sig spec0 := by decide
/-- and to the result. -/
def R0 : Finset (Ref sig .tc) := {main_v18}
theorem R0_sub : R0 ⊆ Pipeline.restRefs sig spec0 \ H0 := by decide

omit [FloatOps F] in
theorem ownSems0_list (c : Dev nD) :
    (Pipeline.ownSems0 (Ix := Unit) (Name := ℕ) (U := Pipeline.UD sig nD τ) (Lvl := ℕ) (Val := Elt F) (τ := τ) osem0 c : sProp 𝕄)
      = iprop(rcellPt c 0 0 ∗ rcellPt c 0 1 ∗ rcellPt c 1 0 ∗ rcellPt c 1 1 ∗ rcellPt c 2 0 ∗ rcellPt c 2 1 ∗ wcellPt c 0 ∗ wcellPt c 1 ∗ wcellPt c 2) := by
  rw [Pipeline.ownSems0_eq_of_list c osem0 [0, 1, 2, 3, 4, 5, 6, 7, 8] (by decide) (by decide)]; rfl

abbrev outPt (c : Dev nD) (G : S85x32x17328.Idx → Elt F .f32) : sProp 𝕄 := ((c : Thread nD τ).loc main_v18) ↦{fullShare} G
abbrev inPt (c : Dev nD) (W : S5776x32x255.Idx → Elt F .f32) : sProp 𝕄 := ((c : Thread nD τ).loc main_v3) ↦{fullShare} W

omit [FloatOps F] in
theorem handed_list (V G : (c : Dev nD) → (b : Ref sig .tc) → Buf (Elt F) ((c : Thread nD τ).loc b)) (c : Dev nD) :
    (Pipeline.ΦDRV osem0 spec0 H0 R0 V G c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (rcellPt c 0 0 ∗ rcellPt c 0 1 ∗ rcellPt c 1 0 ∗ rcellPt c 1 1 ∗ rcellPt c 2 0 ∗ rcellPt c 2 1 ∗ wcellPt c 0 ∗ wcellPt c 1 ∗ wcellPt c 2)
          ∗ inPt c (V c main_v3) ∗ outPt c (G c main_v18)) := by
  unfold Pipeline.ΦDRV
  rw [scopedRest0_eq, ownSems0_list (F := F) c, BI.bigSep_eq_bigSepL_of_eq (S := H0) [main_v3] (by decide) (by decide),
    BI.bigSep_eq_bigSepL_of_eq (S := R0) [main_v18] (by decide) (by decide)]
  rfl

/-! ## The input ring made and unmade -/

variable (c : Dev nD) (W : S5776x32x255.Idx → Elt F .f32) (G : S85x32x17328.Idx → Elt F .f32)

omit [FloatOps F] in
/-- The input, whole, is lent to the three slots under three shares. -/
theorem input_shares : inPt (F := F) c W ⊣⊢ iprop(wholePt c W (qs 0) ∗ wholePt c W (qs 1) ∗ wholePt c W (qs 2)) := by
  refine (pointsTo_share (PosShare.mem_left_op_right fullShare)).trans (sep_congr BiEntails.rfl ?_)
  exact pointsTo_share (PosShare.mem_left_op_right fullShare.right)

omit [FloatOps F] in
theorem slots_split :
    iprop(∃ f : Buf (Elt F) ((c : Thread nD τ).loc cc0_scratch0), ((c : Thread nD τ).loc cc0_scratch0) ↦{fullShare} f)
      ⊢ (iprop((∃ f, slotPt c 0 f) ∗ (∃ f, slotPt c 1 f) ∗ ∃ f, slotPt c 2 f) : sProp 𝕄) :=
  Ring.slots3_split (ℓ := (c : Thread nD τ).loc cc0_scratch0) slotSet slots_disjoint slots_cover _ _ _
    (fun f => by unfold slotPt; rw [rslot_set]; rfl) (fun f => by unfold slotPt; rw [rslot_set]; rfl) (fun f => by unfold slotPt; rw [rslot_set]; rfl)

omit [FloatOps F] in
theorem slots_join :
    (iprop((∃ f, slotPt c 0 f) ∗ (∃ f, slotPt c 1 f) ∗ ∃ f, slotPt c 2 f) : sProp 𝕄)
      ⊢ iprop(∃ f : Buf (Elt F) ((c : Thread nD τ).loc cc0_scratch0), ((c : Thread nD τ).loc cc0_scratch0) ↦{fullShare} f) :=
  Ring.slots3_join (ℓ := (c : Thread nD τ).loc cc0_scratch0) slotSet slots_disjoint slots_cover _ _ _
    (fun f => by unfold slotPt; rw [rslot_set]; rfl) (fun f => by unfold slotPt; rw [rslot_set]; rfl) (fun f => by unfold slotPt; rw [rslot_set]; rfl)

omit [FloatOps F] in
theorem tiles_split :
    iprop(∃ f : Buf (Elt F) ((c : Thread nD τ).loc cc0_scratch1), ((c : Thread nD τ).loc cc0_scratch1) ↦{fullShare} f)
      ⊢ (iprop((∃ f, tilePt c 0 f) ∗ (∃ f, tilePt c 1 f) ∗ ∃ f, tilePt c 2 f) : sProp 𝕄) :=
  Ring.slots3_split (ℓ := (c : Thread nD τ).loc cc0_scratch1) tileSet tiles_disjoint tiles_cover _ _ _
    (fun f => by unfold tilePt; rw [wtile_set]; rfl) (fun f => by unfold tilePt; rw [wtile_set]; rfl) (fun f => by unfold tilePt; rw [wtile_set]; rfl)

omit [FloatOps F] in
theorem tiles_join :
    (iprop((∃ f, tilePt c 0 f) ∗ (∃ f, tilePt c 1 f) ∗ ∃ f, tilePt c 2 f) : sProp 𝕄)
      ⊢ iprop(∃ f : Buf (Elt F) ((c : Thread nD τ).loc cc0_scratch1), ((c : Thread nD τ).loc cc0_scratch1) ↦{fullShare} f) :=
  Ring.slots3_join (ℓ := (c : Thread nD τ).loc cc0_scratch1) tileSet tiles_disjoint tiles_cover _ _ _
    (fun f => by unfold tilePt; rw [wtile_set]; rfl) (fun f => by unfold tilePt; rw [wtile_set]; rfl) (fun f => by unfold tilePt; rw [wtile_set]; rfl)

omit [FloatOps F] in
/-- The result whole is its 32 blocks. -/
theorem pieces_all : outPt (F := F) c G = bigSep Finset.univ fun u : Fin 32 => piecePt c u G := by
  refine (Ring.pointsTo_blocks (ℓ := (c : Thread nD τ).loc main_v18) pieceSet pieces_disjoint pieces_cover G).trans ?_
  refine congrArg (bigSep Finset.univ) (funext fun u => ?_)
  unfold piecePt; rw [wpiece_set]; rfl

omit [FloatOps F] in
theorem piece_any (u : Fin 32) : piecePt (F := F) c u G ⊢ iprop(∃ f, piecePt (F := F) c u f) := by
  iintro H; iexists _; iexact H

omit [FloatOps F] in
/-- What the launch hands the region is the invariant before the first step. -/
theorem rings_in (W : S5776x32x255.Idx → Elt F .f32) (G0 : S85x32x17328.Idx → Elt F .f32) :
    iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (rcellPt c 0 0 ∗ rcellPt c 0 1 ∗ rcellPt c 1 0 ∗ rcellPt c 1 1 ∗ rcellPt c 2 0 ∗ rcellPt c 2 1 ∗ wcellPt c 0 ∗ wcellPt c 1 ∗ wcellPt c 2)
          ∗ inPt c W ∗ outPt c G0)
      ⊢ iprop(readAt (F := F) c W 0 ∗ writeOrEnd c G 0) := by
  rw [show writeOrEnd c G 0 = writeAt c G 0 from if_pos (by decide), readAt_zero c W 0 rfl]
  unfold writeAt
  rw [wrole_lt c G 0 (by decide), wrole_lt c G (0 + 1) (by decide), wrole_lt c G (0 + 2) (by decide)]
  have ea : outPt (F := F) c G0 ⊢ aheadAt (F := F) c 0 := by
    rw [pieces_all]
    unfold aheadAt
    rw [Ring.aheadSet_zero]
    exact BI.bigSep_mono fun u _ => piece_any c G0 u
  have eb : (iprop(⌜True⌝) : sProp 𝕄) ⊢ behindAt c G 0 := by
    unfold behindAt
    rw [Ring.behindSet_boot 3 0 (by decide), bigSep_empty]
    iintro -; iempintro
  rw [show (Ring.sl 3 0 : Fin 3) = 0 from rfl, show (Ring.sl 3 (0 + 1) : Fin 3) = 1 from rfl, show (Ring.sl 3 (0 + 2) : Fin 3) = 2 from rfl]
  unfold rfree wfree
  iintro ⟨⟨HX, HT⟩, ⟨C00, C01, C10, C11, C20, C21, D0, D1, D2⟩, HI, HO⟩
  ihave HX := (slots_split c) $$ HX
  icases HX with ⟨X0, X1, X2⟩
  ihave HT := (tiles_split c) $$ HT
  icases HT with ⟨T0, T1, T2⟩
  ihave HI := (input_shares c W).1 $$ HI
  icases HI with ⟨I0, I1, I2⟩
  ihave HO := ea $$ HO
  isplitl [C00 C01 C10 C11 C20 C21 X0 X1 X2 I0 I1 I2]
  · isplitl [C00 C01 X0 I0]
    · isplitl [C00]; · iexact C00
      isplitl [C01]; · iexact C01
      isplitl [X0]; · iexact X0
      iexact I0
    isplitl [C10 C11 X1 I1]
    · isplitl [C10]; · iexact C10
      isplitl [C11]; · iexact C11
      isplitl [X1]; · iexact X1
      iexact I1
    isplitl [C20]; · iexact C20
    isplitl [C21]; · iexact C21
    isplitl [X2]; · iexact X2
    iexact I2
  isplitl [D0 T0]
  · isplitl [D0]; · iexact D0
    iexact T0
  isplitl [D1 T1]
  · isplitl [D1]; · iexact D1
    iexact T1
  isplitl [D2 T2]
  · isplitl [D2]; · iexact D2
    iexact T2
  isplitl [HO]; · iexact HO
  iapply eb
  ipureintro; trivial

omit [FloatOps F] in
/-- The invariant after the last step gives it back, the result now holding `G`. -/
theorem rings_out :
    iprop(readAt (F := F) c W 32 ∗ writeOrEnd c G 32)
      ⊢ iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (rcellPt c 0 0 ∗ rcellPt c 0 1 ∗ rcellPt c 1 0 ∗ rcellPt c 1 1 ∗ rcellPt c 2 0 ∗ rcellPt c 2 1 ∗ wcellPt c 0 ∗ wcellPt c 1 ∗ wcellPt c 2)
          ∗ inPt c W ∗ outPt c G) := by
  rw [show writeOrEnd c G 32 = writeEnd c G from if_neg (by decide), readAt_pos c W 32 (by decide), rrole_ge c W 32 (by decide), rrole_ge c W (32 + 1) (by decide)]
  rw [show (Ring.sl 3 32 : Fin 3) = 2 from rfl, show (Ring.sl 3 (32 + 1) : Fin 3) = 0 from rfl, show (Ring.sl 3 (32 + 2) : Fin 3) = 1 from rfl, pieces_all]
  unfold writeEnd rfree wfree
  iintro ⟨⟨⟨C20, C21, X2, I2⟩, ⟨C00, C01, X0, I0⟩, C10, C11, X1, I1⟩, ⟨D0, T0⟩, ⟨D1, T1⟩, ⟨D2, T2⟩, HO⟩
  isplitl [X0 X1 X2 T0 T1 T2]
  · isplitl [X0 X1 X2]
    · iapply (slots_join c)
      isplitl [X0]; · iexact X0
      isplitl [X1]; · iexact X1
      iexact X2
    iapply (tiles_join c)
    isplitl [T0]; · iexact T0
    isplitl [T1]; · iexact T1
    iexact T2
  isplitl [C00 C01 C10 C11 C20 C21 D0 D1 D2]
  · isplitl [C00]; · iexact C00
    isplitl [C01]; · iexact C01
    isplitl [C10]; · iexact C10
    isplitl [C11]; · iexact C11
    isplitl [C20]; · iexact C20
    isplitl [C21]; · iexact C21
    isplitl [D0]; · iexact D0
    isplitl [D1]; · iexact D1
    iexact D2
  isplitl [I0 I1 I2]
  · iapply (input_shares c W).2
    isplitl [I0]; · iexact I0
    isplitl [I1]; · iexact I1
    iexact I2
  iexact HO

end Cert.KernelIdeal.Body

end
-- ==== Proof.Ker.Part2.lean ====
/-
  The first part of the kernel body: the copies of the block two ahead are started, the
  copies of this step's block are waited for, the copy out that used this step's tile is waited for, and the block is loaded.
-/
module

public import proofs.«01_k».proof.Proof.Ker.Held

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

/-! ## What the loads read -/

/-- The load of slot `s` holding block `b` is the block. -/
theorem load_slot (W : S5776x32x255.Idx → Elt F .f32) (s : Fin 3) (b : Fin 32) (off : Fin 3 → ℕ) (inb : ∀ a, off a + S1x5776x255.size a ≤ S3x5776x255.size a)
    (hoff : off = ![s.val, 0, 0]) :
    View.readAt (Elt F) xbuf.view (Rect.unit (s := S3x5776x255) off S1x5776x255.size inb).toLoadRect (xblk W b) = xrow W b := by
  subst hoff
  funext j
  show W (ix3 _ b _) = W (ix3 _ b _)
  congr 1
  funext a; apply Fin.ext; fin_cases a
  · show 0 + 1 * (j 1).val = (j 1).val; omega
  · rfl
  · show 0 + 1 * (j 2).val = (j 2).val; omega

/-- The load of the whole staged table of cell positions. -/
theorem load_table (arg1 : Memref sig .tc .vmem S2x5776 .f32) (harg1 : arg1.IsWhole) (x0 : Vec F S2x5776 .f32) :
    View.readAt (Elt F) arg1.view (Rect.unit ![0, 0] S2x5776.size inb_S2x5776_S2x5776_0_0).toLoadRect (harg1.unread x0) = x0 := by
  rw [View.readAt_eq_ld, harg1.read_unread]
  funext j
  show x0 _ = x0 j
  congr 1
  funext a; apply Fin.ext; fin_cases a
  · show 0 + 1 * (j 0).val = (j 0).val; omega
  · show 0 + 1 * (j 1).val = (j 1).val; omega

/-- The load of one word of the staged parameters. -/
theorem load_word (arg2 : Memref sig .tc .smem S4x2 .f32) (harg2 : arg2.IsWhole) (x1 : Vec F S4x2 .f32) (p : Fin 4) (q : Fin 2)
    (inb : ∀ a, (![p.val, q.val] : Fin 2 → ℕ) a + S1x1.size a ≤ S4x2.size a) (h) :
    View.readAt (Elt F) arg2.view (Rect.unit (s := S4x2) ![p.val, q.val] S1x1.size inb).toLoadRect (harg2.unread x1) (Shape.Idx.first h) = x1 (ix2 p q) := by
  rw [View.readAt_eq_ld, harg2.read_unread]
  show x1 _ = x1 _
  congr 1
  funext a; apply Fin.ext; fin_cases a
  · show p.val + 1 * 0 = p.val; omega
  · show q.val + 1 * 0 = q.val; omega

variable (c : Dev nD) (W : S5776x32x255.Idx → Elt F .f32) (G : S85x32x17328.Idx → Elt F .f32)

set_option maxHeartbeats 1000000 in
/-- At the first point: the copies of blocks 0, 1 and 2 are started, those of block 0 waited for. -/
theorem part2_A (arg1 : Memref sig .tc .vmem S2x5776 .f32) (harg1 : arg1.IsWhole) (arg2 : Memref sig .tc .smem S4x2 .f32) (harg2 : arg2.IsWhole)
    (hc0 : cFirst (grid0.coords t0)) (hc1 : cStart (grid0.coords t0)) (hc2 : ¬cWait (grid0.coords t0))
    (x0 : Vec F S2x5776 .f32) (x1 : Vec F S4x2 .f32) (Ws : Waits sig Unit)
    (K : (Σ' (arg0 : BitVec 32) (v0 : BitVec 32) (v26 : FVec F S255x5776 .f32) (v27 : Elt F .f32), FVec F S2x5776 .f32) → sProp 𝕄) :
    iprop(owns (c : Thread nD τ) arg1 fullShare x0 ∗ owns (c : Thread nD τ) arg2 fullShare x1
        ∗ rfree c W (Ring.sl 3 t0.val) ∗ rfree c W (Ring.sl 3 (t0.val + 1)) ∗ rfree c W (Ring.sl 3 (t0.val + 2)) ∗ owes (c : Thread nD τ) 0 Ws
        ∗ (iprop(owns (c : Thread nD τ) arg1 fullShare x0 ∗ owns (c : Thread nD τ) arg2 fullShare x1
            ∗ rfree c W (Ring.sl 3 t0.val) ∗ rinfl c W (Ring.sl 3 (t0.val + 1)) (Ring.bk 32 (t0.val + 1)) ∗ rinfl c W (Ring.sl 3 (t0.val + 2)) (Ring.bk 32 (t0.val + 2)) ∗ (∃ W', owes (c : Thread nD τ) 0 W')) -∗
          K ⟨BitVec.ofNat 32 (grid0.coords t0 0).val, Scalar.remsi (BitVec.ofNat 32 (grid0.coords t0 0).val) 3#32,
              k0_pay1 (xrow W (Ring.bk 32 t0.val)), x1 (ix2 3 0), k0_pay2 x0⟩))
      ⊢ wp frame (wpE (defs₀ (F := F)) Variants.none c none) Set.univ
          (k0_part2 (grid0.coords t0) arg1 harg1 arg2 harg2 pHbm (Memref.isWhole_whole _) oHbm (Memref.isWhole_whole _)
            xbuf (Memref.isWhole_whole _) tbuf (Memref.isWhole_whole _) cc0_scratch2 cc0_scratch3) K := by
  haveI : Fact (cFirst (grid0.coords t0)) := ⟨hc0⟩
  haveI : Fact (cStart (grid0.coords t0)) := ⟨hc1⟩
  haveI : Fact (¬cWait (grid0.coords t0)) := ⟨hc2⟩
  rw [k0_part2_eq_skeleton]; unfold k0_part2_skel; simp only [k0_part1_eq_skeleton]; unfold k0_part1_skel
  unfold owns rinfl rfree
  iintro ⟨⟨%f0, %hf0, H0⟩, ⟨%f1, %hf1, H1⟩, ⟨HA, HB, ⟨%fs0, Hs0⟩, Hw0⟩, ⟨HcA1, HcB1, ⟨%fs1, Hs1⟩, Hw1⟩, ⟨HcA2, HcB2, ⟨%fs2, Hs2⟩, Hw2⟩, HW, Hk⟩
  ihave Hs0 := (slot_halves c (Ring.sl 3 t0.val) fs0).1 $$ Hs0
  icases Hs0 with ⟨Hs00, Hs01⟩
  ihave Hw0 := (whole_srcs c W (qs (Ring.sl 3 t0.val)) (Ring.bk 32 t0.val)).1 $$ Hw0
  icases Hw0 with ⟨Hw00, Hw01, Hw0r⟩
  ihave Hs1 := (slot_halves c (Ring.sl 3 (t0.val + 1)) fs1).1 $$ Hs1
  icases Hs1 with ⟨Hs10, Hs11⟩
  ihave Hw1 := (whole_srcs c W (qs (Ring.sl 3 (t0.val + 1))) (Ring.bk 32 (t0.val + 1))).1 $$ Hw1
  icases Hw1 with ⟨Hw10, Hw11, Hw1r⟩
  ihave Hs2 := (slot_halves c (Ring.sl 3 (t0.val + 2)) fs2).1 $$ Hs2
  icases Hs2 with ⟨Hs20, Hs21⟩
  ihave Hw2 := (whole_srcs c W (qs (Ring.sl 3 (t0.val + 2))) (Ring.bk 32 (t0.val + 2))).1 $$ Hw2
  icases Hw2 with ⟨Hw20, Hw21, Hw2r⟩
  obtain rfl := harg1.eq_unread hf0; obtain rfl := harg2.eq_unread hf1
  sl_exec (disch := first | sl_exact hc0 | sl_exact hc1 | sl_exact hc2)
  ihave HA_dst := (eq_entails (F := F) (pointsTo_congr (landed_half W (Ring.sl 3 t0.val) 0 (Ring.bk 32 t0.val) fs0))) $$ Hs00
  ihave HB_dst := (eq_entails (F := F) (pointsTo_congr (landed_half W (Ring.sl 3 t0.val) 1 (Ring.bk 32 t0.val) fs0))) $$ Hs01
  ihave Hsl := (slot_halves c (Ring.sl 3 t0.val) (xblk W (Ring.bk 32 t0.val))).2 $$ [HA_dst HB_dst]
  · isplitl [HA_dst]; · iexact HA_dst
    iexact HB_dst
  sl_exec
  have e1 : part2_A.sl.r c arg2 harg2 x1 = x1 (ix2 3 0) := load_word arg2 harg2 x1 3 0 _ _
  rw [e1, load_table arg1 harg1 x0, load_slot W (Ring.sl 3 t0.val) (Ring.bk 32 t0.val) _ _ (coff16 t0)]
  sl_step
  iapply Hk
  isplitl [H0]
  · iexists _; isplitr; · ipureintro; exact harg1.read_unread _
    iexact H0
  isplitl [H1]
  · iexists _; isplitr; · ipureintro; exact harg2.read_unread _
    iexact H1
  isplitl [HA HB Hsl Hw00 Hw01 Hw0r]
  · isplitl [HA]; · iexact HA
    isplitl [HB]; · iexact HB
    isplitl [Hsl]; · iexists _; iexact Hsl
    iapply (whole_srcs c W (qs (Ring.sl 3 t0.val)) (Ring.bk 32 t0.val)).2
    isplitl [Hw00]; · iexact Hw00
    isplitl [Hw01]; · iexact Hw01
    iexact Hw0r
  isplitl [HcA1 HcB1 Hw1r]
  · isplitl [HcA1]; · iapply (rflight_intro c W _ _ 0 fs1); iexact HcA1
    isplitl [HcB1]; · iapply (rflight_intro c W _ _ 1 fs1); iexact HcB1
    iexact Hw1r
  isplitl [HcA2 HcB2 Hw2r]
  · isplitl [HcA2]; · iapply (rflight_intro c W _ _ 0 fs2); iexact HcA2
    isplitl [HcB2]; · iapply (rflight_intro c W _ _ 1 fs2); iexact HcB2
    iexact Hw2r
  iexists _; iexact HW

set_option maxHeartbeats 1000000 in
/-- At points 1 and 2: nothing has been copied out of this step's tile yet. -/
theorem part2_B (t : Fin grid0.N) (arg1 : Memref sig .tc .vmem S2x5776 .f32) (harg1 : arg1.IsWhole) (arg2 : Memref sig .tc .smem S4x2 .f32) (harg2 : arg2.IsWhole)
    (hc0 : ¬cFirst (grid0.coords t)) (hc1 : cStart (grid0.coords t)) (hc2 : ¬cWait (grid0.coords t))
    (x0 : Vec F S2x5776 .f32) (x1 : Vec F S4x2 .f32) (Ws : Waits sig Unit)
    (K : (Σ' (arg0 : BitVec 32) (v0 : BitVec 32) (v26 : FVec F S255x5776 .f32) (v27 : Elt F .f32), FVec F S2x5776 .f32) → sProp 𝕄) :
    iprop(owns (c : Thread nD τ) arg1 fullShare x0 ∗ owns (c : Thread nD τ) arg2 fullShare x1
        ∗ rinfl c W (Ring.sl 3 t.val) (Ring.bk 32 t.val) ∗ rfree c W (Ring.sl 3 (t.val + 2)) ∗ owes (c : Thread nD τ) 0 Ws
        ∗ (iprop(owns (c : Thread nD τ) arg1 fullShare x0 ∗ owns (c : Thread nD τ) arg2 fullShare x1
            ∗ rfree c W (Ring.sl 3 t.val) ∗ rinfl c W (Ring.sl 3 (t.val + 2)) (Ring.bk 32 (t.val + 2)) ∗ (∃ W', owes (c : Thread nD τ) 0 W')) -∗
          K ⟨BitVec.ofNat 32 (grid0.coords t 0).val, Scalar.remsi (BitVec.ofNat 32 (grid0.coords t 0).val) 3#32,
              k0_pay1 (xrow W (Ring.bk 32 t.val)), x1 (ix2 3 0), k0_pay2 x0⟩))
      ⊢ wp frame (wpE (defs₀ (F := F)) Variants.none c none) Set.univ
          (k0_part2 (grid0.coords t) arg1 harg1 arg2 harg2 pHbm (Memref.isWhole_whole _) oHbm (Memref.isWhole_whole _)
            xbuf (Memref.isWhole_whole _) tbuf (Memref.isWhole_whole _) cc0_scratch2 cc0_scratch3) K := by
  haveI : Fact (¬cFirst (grid0.coords t)) := ⟨hc0⟩
  haveI : Fact (cStart (grid0.coords t)) := ⟨hc1⟩
  haveI : Fact (¬cWait (grid0.coords t)) := ⟨hc2⟩
  rw [k0_part2_eq_skeleton]; unfold k0_part2_skel
  unfold owns rinfl rfree
  iintro ⟨⟨%f0, %hf0, H0⟩, ⟨%f1, %hf1, H1⟩, ⟨HA, HB, Hw0r⟩, ⟨HcA2, HcB2, ⟨%fs2, Hs2⟩, Hw2⟩, HW, Hk⟩
  ihave Hs2 := (slot_halves c (Ring.sl 3 (t.val + 2)) fs2).1 $$ Hs2
  icases Hs2 with ⟨Hs20, Hs21⟩
  ihave Hw2 := (whole_srcs c W (qs (Ring.sl 3 (t.val + 2))) (Ring.bk 32 (t.val + 2))).1 $$ Hw2
  icases Hw2 with ⟨Hw20, Hw21, Hw2r⟩
  obtain rfl := harg1.eq_unread hf0; obtain rfl := harg2.eq_unread hf1
  sl_exec (disch := first | sl_exact hc0 | sl_exact hc1 | sl_exact hc2)
  ihave Hsl := (slot_halves c (Ring.sl 3 t.val) (xblk W (Ring.bk 32 t.val))).2 $$ [HA_dst HB_dst]
  · isplitl [HA_dst]; · iexact HA_dst
    iexact HB_dst
  sl_exec
  have e1 : part2_B.sl.r c arg2 harg2 x1 = x1 (ix2 3 0) := load_word arg2 harg2 x1 3 0 _ _
  have e2 : part2_B.sl.v0 t = Scalar.remsi (BitVec.ofNat 32 (grid0.coords t 0).val) 3#32 := rfl
  rw [e1, e2, load_table arg1 harg1 x0, load_slot W (Ring.sl 3 t.val) (Ring.bk 32 t.val) _ _ (coff16 t)]
  sl_step
  iapply Hk
  isplitl [H0]
  · iexists _; isplitr; · ipureintro; exact harg1.read_unread _
    iexact H0
  isplitl [H1]
  · iexists _; isplitr; · ipureintro; exact harg2.read_unread _
    iexact H1
  isplitl [HA HB Hsl HA_src HB_src Hw0r]
  · isplitl [HA]; · iexact HA
    isplitl [HB]; · iexact HB
    isplitl [Hsl]; · iexists _; iexact Hsl
    iapply (whole_srcs c W (qs (Ring.sl 3 t.val)) (Ring.bk 32 t.val)).2
    isplitl [HA_src]; · iexact HA_src
    isplitl [HB_src]; · iexact HB_src
    iexact Hw0r
  isplitl [HcA2 HcB2 Hw2r]
  · isplitl [HcA2]; · iapply (rflight_intro c W _ _ 0 fs2); iexact HcA2
    isplitl [HcB2]; · iapply (rflight_intro c W _ _ 1 fs2); iexact HcB2
    iexact Hw2r
  iexists _; iexact HW

set_option maxHeartbeats 1000000 in
/-- At points 3 to 29. -/
theorem part2_C (t : Fin grid0.N) (arg1 : Memref sig .tc .vmem S2x5776 .f32) (harg1 : arg1.IsWhole) (arg2 : Memref sig .tc .smem S4x2 .f32) (harg2 : arg2.IsWhole)
    (hc0 : ¬cFirst (grid0.coords t)) (hc1 : cStart (grid0.coords t)) (hc2 : cWait (grid0.coords t))
    (x0 : Vec F S2x5776 .f32) (x1 : Vec F S4x2 .f32) (Ws : Waits sig Unit)
    (K : (Σ' (arg0 : BitVec 32) (v0 : BitVec 32) (v26 : FVec F S255x5776 .f32) (v27 : Elt F .f32), FVec F S2x5776 .f32) → sProp 𝕄) :
    iprop(owns (c : Thread nD τ) arg1 fullShare x0 ∗ owns (c : Thread nD τ) arg2 fullShare x1
        ∗ rinfl c W (Ring.sl 3 t.val) (Ring.bk 32 t.val) ∗ rfree c W (Ring.sl 3 (t.val + 2)) ∗ winfl c G (Ring.sl 3 t.val) (Ring.bk 32 (t.val - 3)) ∗ owes (c : Thread nD τ) 0 Ws
        ∗ (iprop(owns (c : Thread nD τ) arg1 fullShare x0 ∗ owns (c : Thread nD τ) arg2 fullShare x1
            ∗ rfree c W (Ring.sl 3 t.val) ∗ rinfl c W (Ring.sl 3 (t.val + 2)) (Ring.bk 32 (t.val + 2)) ∗ wfree c (Ring.sl 3 t.val) ∗ piecePt c (Ring.bk 32 (t.val - 3)) G ∗ (∃ W', owes (c : Thread nD τ) 0 W')) -∗
          K ⟨BitVec.ofNat 32 (grid0.coords t 0).val, Scalar.remsi (BitVec.ofNat 32 (grid0.coords t 0).val) 3#32,
              k0_pay1 (xrow W (Ring.bk 32 t.val)), x1 (ix2 3 0), k0_pay2 x0⟩))
      ⊢ wp frame (wpE (defs₀ (F := F)) Variants.none c none) Set.univ
          (k0_part2 (grid0.coords t) arg1 harg1 arg2 harg2 pHbm (Memref.isWhole_whole _) oHbm (Memref.isWhole_whole _)
            xbuf (Memref.isWhole_whole _) tbuf (Memref.isWhole_whole _) cc0_scratch2 cc0_scratch3) K := by
  haveI : Fact (¬cFirst (grid0.coords t)) := ⟨hc0⟩
  haveI : Fact (cStart (grid0.coords t)) := ⟨hc1⟩
  haveI : Fact (cWait (grid0.coords t)) := ⟨hc2⟩
  rw [k0_part2_eq_skeleton]; unfold k0_part2_skel
  unfold owns rinfl rfree winfl
  iintro ⟨⟨%f0, %hf0, H0⟩, ⟨%f1, %hf1, H1⟩, ⟨HA, HB, Hw0r⟩, ⟨HcA2, HcB2, ⟨%fs2, Hs2⟩, Hw2⟩, ⟨%e, HF⟩, HW, Hk⟩
  ihave Hs2 := (slot_halves c (Ring.sl 3 (t.val + 2)) fs2).1 $$ Hs2
  icases Hs2 with ⟨Hs20, Hs21⟩
  ihave Hw2 := (whole_srcs c W (qs (Ring.sl 3 (t.val + 2))) (Ring.bk 32 (t.val + 2))).1 $$ Hw2
  icases Hw2 with ⟨Hw20, Hw21, Hw2r⟩
  obtain rfl := harg1.eq_unread hf0; obtain rfl := harg2.eq_unread hf1
  sl_exec (disch := first | sl_exact hc0 | sl_exact hc1 | sl_exact hc2)
  ihave Hsl := (slot_halves c (Ring.sl 3 t.val) (xblk W (Ring.bk 32 t.val))).2 $$ [HA_dst HB_dst]
  · isplitl [HA_dst]; · iexact HA_dst
    iexact HB_dst
  sl_exec
  have e1 : part2_C.sl.r c arg2 harg2 x1 = x1 (ix2 3 0) := load_word arg2 harg2 x1 3 0 _ _
  have e2 : part2_C.sl.v0 t = Scalar.remsi (BitVec.ofNat 32 (grid0.coords t 0).val) 3#32 := rfl
  rw [e1, e2, load_table arg1 harg1 x0, load_slot W (Ring.sl 3 t.val) (Ring.bk 32 t.val) _ _ (coff16 t)]
  sl_step
  iapply Hk
  isplitl [H0]
  · iexists _; isplitr; · ipureintro; exact harg1.read_unread _
    iexact H0
  isplitl [H1]
  · iexists _; isplitr; · ipureintro; exact harg2.read_unread _
    iexact H1
  isplitl [HA HB Hsl HA_src HB_src Hw0r]
  · isplitl [HA]; · iexact HA
    isplitl [HB]; · iexact HB
    isplitl [Hsl]; · iexists _; iexact Hsl
    iapply (whole_srcs c W (qs (Ring.sl 3 t.val)) (Ring.bk 32 t.val)).2
    isplitl [HA_src]; · iexact HA_src
    isplitl [HB_src]; · iexact HB_src
    iexact Hw0r
  isplitl [HcA2 HcB2 Hw2r]
  · isplitl [HcA2]; · iapply (rflight_intro c W _ _ 0 fs2); iexact HcA2
    isplitl [HcB2]; · iapply (rflight_intro c W _ _ 1 fs2); iexact HcB2
    iexact Hw2r
  isplitl [HF HF_src]
  · unfold wfree
    isplitl [HF]; · iexact HF
    iexists _; iexact HF_src
  isplitl [HF_dst]; · iexact HF_dst
  iexists _; iexact HW

set_option maxHeartbeats 1000000 in
/-- At points 30 and 31: there is no block two ahead. -/
theorem part2_D (t : Fin grid0.N) (arg1 : Memref sig .tc .vmem S2x5776 .f32) (harg1 : arg1.IsWhole) (arg2 : Memref sig .tc .smem S4x2 .f32) (harg2 : arg2.IsWhole)
    (hc0 : ¬cFirst (grid0.coords t)) (hc1 : ¬cStart (grid0.coords t)) (hc2 : cWait (grid0.coords t))
    (x0 : Vec F S2x5776 .f32) (x1 : Vec F S4x2 .f32) (Ws : Waits sig Unit)
    (K : (Σ' (arg0 : BitVec 32) (v0 : BitVec 32) (v26 : FVec F S255x5776 .f32) (v27 : Elt F .f32), FVec F S2x5776 .f32) → sProp 𝕄) :
    iprop(owns (c : Thread nD τ) arg1 fullShare x0 ∗ owns (c : Thread nD τ) arg2 fullShare x1
        ∗ rinfl c W (Ring.sl 3 t.val) (Ring.bk 32 t.val) ∗ winfl c G (Ring.sl 3 t.val) (Ring.bk 32 (t.val - 3)) ∗ owes (c : Thread nD τ) 0 Ws
        ∗ (iprop(owns (c : Thread nD τ) arg1 fullShare x0 ∗ owns (c : Thread nD τ) arg2 fullShare x1
            ∗ rfree c W (Ring.sl 3 t.val) ∗ wfree c (Ring.sl 3 t.val) ∗ piecePt c (Ring.bk 32 (t.val - 3)) G ∗ (∃ W', owes (c : Thread nD τ) 0 W')) -∗
          K ⟨BitVec.ofNat 32 (grid0.coords t 0).val, Scalar.remsi (BitVec.ofNat 32 (grid0.coords t 0).val) 3#32,
              k0_pay1 (xrow W (Ring.bk 32 t.val)), x1 (ix2 3 0), k0_pay2 x0⟩))
      ⊢ wp frame (wpE (defs₀ (F := F)) Variants.none c none) Set.univ
          (k0_part2 (grid0.coords t) arg1 harg1 arg2 harg2 pHbm (Memref.isWhole_whole _) oHbm (Memref.isWhole_whole _)
            xbuf (Memref.isWhole_whole _) tbuf (Memref.isWhole_whole _) cc0_scratch2 cc0_scratch3) K := by
  haveI : Fact (¬cFirst (grid0.coords t)) := ⟨hc0⟩
  haveI : Fact (¬cStart (grid0.coords t)) := ⟨hc1⟩
  haveI : Fact (cWait (grid0.coords t)) := ⟨hc2⟩
  rw [k0_part2_eq_skeleton]; unfold k0_part2_skel
  unfold owns rfree rinfl winfl
  iintro ⟨⟨%f0, %hf0, H0⟩, ⟨%f1, %hf1, H1⟩, ⟨HA, HB, Hw0r⟩, ⟨%e, HF⟩, HW, Hk⟩
  obtain rfl := harg1.eq_unread hf0; obtain rfl := harg2.eq_unread hf1
  sl_exec (disch := first | sl_exact hc0 | sl_exact hc1 | sl_exact hc2)
  ihave Hsl := (slot_halves c (Ring.sl 3 t.val) (xblk W (Ring.bk 32 t.val))).2 $$ [HA_dst HB_dst]
  · isplitl [HA_dst]; · iexact HA_dst
    iexact HB_dst
  sl_exec
  have e1 : part2_D.sl.r c arg2 harg2 x1 = x1 (ix2 3 0) := load_word arg2 harg2 x1 3 0 _ _
  have e2 : part2_D.sl.v0 t = Scalar.remsi (BitVec.ofNat 32 (grid0.coords t 0).val) 3#32 := rfl
  rw [e1, e2, load_table arg1 harg1 x0, load_slot W (Ring.sl 3 t.val) (Ring.bk 32 t.val) _ _ (coff16 t)]
  sl_step
  iapply Hk
  isplitl [H0]
  · iexists _; isplitr; · ipureintro; exact harg1.read_unread _
    iexact H0
  isplitl [H1]
  · iexists _; isplitr; · ipureintro; exact harg2.read_unread _
    iexact H1
  isplitl [HA HB Hsl HA_src HB_src Hw0r]
  · isplitl [HA]; · iexact HA
    isplitl [HB]; · iexact HB
    isplitl [Hsl]; · iexists _; iexact Hsl
    iapply (whole_srcs c W (qs (Ring.sl 3 t.val)) (Ring.bk 32 t.val)).2
    isplitl [HA_src]; · iexact HA_src
    isplitl [HB_src]; · iexact HB_src
    iexact Hw0r
  isplitl [HF HF_src]
  · unfold wfree
    isplitl [HF]; · iexact HF
    iexists _; iexact HF_src
  isplitl [HF_dst]; · iexact HF_dst
  iexists _; iexact HW
end Cert.KernelIdeal.Body

end
-- ==== Proof.Ker.Tail.lean ====
/-
  The rest of a step: the three anchor rows of the block are decoded into the step's tile, and the tile's copy out to the
  step's piece of the output is started.
-/
module

public import proofs.«01_k».proof.Proof.Ker.Part2
public import Idealize.ShloMosaic.Lib.Writes

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

/-! ## The tile of a step -/

/-- The 85 channels of anchor `a`, channel by position. -/
def rowsOf (v26 : FVec F S255x5776 .f32) (a : Fin 3) : FVec F S85x5776 .f32 :=
  if a.val = 0 then k0_pay4 v26 else if a.val = 1 then k0_pay7 v26 else k0_pay10 v26

/-- The five decoded channels of anchor `a`, from the block `v24`, the cell positions `x0` and the parameters `x1`. -/
def boxRows (v24 : Vec F S1x5776x255 .f32) (x0 : Vec F S2x5776 .f32) (x1 : Vec F S4x2 .f32) (a : Fin 3) : FVec F S1x5x5776 .f32 :=
  k0_pay9 (x1 (ix2 3 0)) (k0_pay3 (k0_pay2 x0)) (iota .tc S5x5776 32 [0] iota_S5x5776_d0_w32) (rowsOf (k0_pay1 v24) a)
    (x1 (ix2 ⟨a.val, by omega⟩ 0)) (x1 (ix2 ⟨a.val, by omega⟩ 1))

/-- What a step leaves in its tile at channel `x`, lane `y`: lane `5776 a + q` is position `q` of anchor `a`. -/
def stepVal (v24 : Vec F S1x5776x255 .f32) (x0 : Vec F S2x5776 .f32) (x1 : Vec F S4x2 .f32) (x : Fin 85) (y : Fin 17328) : Elt F .f32 :=
  if h : x.val < 5 then boxRows v24 x0 x1 ⟨y.val / 5776, by omega⟩ (ix3 0 ⟨x.val, h⟩ ⟨y.val % 5776, Nat.mod_lt _ (by decide)⟩)
  else k0_pay8 (rowsOf (k0_pay1 v24) ⟨y.val / 5776, by omega⟩) (ix3 0 x ⟨y.val % 5776, Nat.mod_lt _ (by decide)⟩)

/-! ## The six stores of a step -/

/-- A store read inside its box. -/
theorem store_hit (off size : Fin 3 → ℕ) (inb : ∀ a, off a + size a ≤ S3x85x17328.size a) (f : S3x85x17328.Idx → Elt F .f32)
    (w : (Rect.unit (s := S3x85x17328) off size inb).shape.Idx → Elt F .f32) (x : (Rect.unit (s := S3x85x17328) off size inb).shape.Idx)
    (y : S3x85x17328.Idx) (h : ∀ a, off a + (x a).val = (y a).val) :
    View.write (Elt F) (tbuf.access (Rect.unit (s := S3x85x17328) off size inb)) f w Finset.univ y = w x := by
  have e : (tbuf.access (Rect.unit (s := S3x85x17328) off size inb)).emb x = y := by
    funext a; apply Fin.ext
    show off a + 1 * (x a).val = (y a).val
    rw [Nat.one_mul]; exact h a
  rw [← e]
  exact View.write_emb_of_mem _ _ (Finset.mem_univ _)

/-- A store read outside its box, on some axis. -/
theorem store_miss (off size : Fin 3 → ℕ) (inb : ∀ a, off a + size a ≤ S3x85x17328.size a) (f : S3x85x17328.Idx → Elt F .f32)
    (w : (Rect.unit (s := S3x85x17328) off size inb).shape.Idx → Elt F .f32)
    (y : S3x85x17328.Idx) (a : Fin 3) (h : (y a).val < off a ∨ off a + size a ≤ (y a).val) :
    View.write (Elt F) (tbuf.access (Rect.unit (s := S3x85x17328) off size inb)) f w Finset.univ y = f y := by
  refine View.write_of_not_mem _ _ _ ?_
  intro hy
  obtain ⟨x, -, hx⟩ := Finset.mem_map.mp hy
  have hv : (y a).val = off a + 1 * (x a).val := by rw [← hx]; rfl
  have hb : (x a).val < size a := (x a).isLt
  omega

theorem out_of_band {k y : ℕ} (h : ¬(k ≤ y ∧ y - k < 5776)) : y < k ∨ k + 5776 ≤ y := by omega

/-- The two stores of one anchor: its 85 channels, then its first five over them, at lanes from `k`. -/
theorem band_stores (s : Fin 3) (k : ℕ) (o85 o5 : Fin 3 → ℕ) (h85 : o85 = ![s.val, 0, k]) (h5 : o5 = ![s.val, 0, k])
    (i85 : ∀ a, o85 a + S1x85x5776.size a ≤ S3x85x17328.size a) (i5 : ∀ a, o5 a + S1x5x5776.size a ≤ S3x85x17328.size a)
    (f : S3x85x17328.Idx → Elt F .f32) (p : S1x85x5776.Idx → Elt F .f32) (r : S1x5x5776.Idx → Elt F .f32) (x : Fin 85) (y : Fin 17328) :
    View.write (Elt F) (tbuf.access (Rect.unit (s := S3x85x17328) o5 S1x5x5776.size i5))
      (View.write (Elt F) (tbuf.access (Rect.unit (s := S3x85x17328) o85 S1x85x5776.size i85)) f p Finset.univ) r Finset.univ (ix3 s x y)
      = if hy : k ≤ y.val ∧ y.val - k < 5776 then
          (if hx : x.val < 5 then r (ix3 0 ⟨x.val, hx⟩ ⟨y.val - k, hy.2⟩) else p (ix3 0 x ⟨y.val - k, hy.2⟩))
        else f (ix3 s x y) := by
  subst h85; subst h5
  by_cases hy : k ≤ y.val ∧ y.val - k < 5776
  · rw [dif_pos hy]
    by_cases hx : x.val < 5
    · rw [dif_pos hx]
      refine store_hit _ _ _ _ _ _ _ (fun a => ?_)
      fin_cases a
      · show s.val + 0 = s.val; rfl
      · show 0 + x.val = x.val; omega
      · show k + (y.val - k) = y.val; omega
    · rw [dif_neg hx]
      refine (store_miss _ _ _ _ _ _ 1 (Or.inr ?_)).trans (store_hit _ _ _ _ _ _ _ (fun a => ?_))
      · show 0 + 5 ≤ x.val; omega
      · fin_cases a
        · show s.val + 0 = s.val; rfl
        · show 0 + x.val = x.val; omega
        · show k + (y.val - k) = y.val; omega
  · rw [dif_neg hy]
    have a1 : (![s.val, 0, k] : Fin 3 → ℕ) 2 = k := rfl
    have a2 : S1x85x5776.size 2 = 5776 := rfl
    have a3 : S1x5x5776.size 2 = 5776 := rfl
    have a4 : ((ix3 s x y : S3x85x17328.Idx) 2).val = y.val := rfl
    have b5 := store_miss ![s.val, 0, k] S1x5x5776.size i5
      (View.write (Elt F) (tbuf.access (Rect.unit (s := S3x85x17328) ![s.val, 0, k] S1x85x5776.size i85)) f p Finset.univ) r (ix3 s x y) 2
      (by rw [a1, a3, a4]; exact out_of_band hy)
    have b85 := store_miss ![s.val, 0, k] S1x85x5776.size i85 f p (ix3 s x y) 2 (by rw [a1, a2, a4]; exact out_of_band hy)
    rw [b5, b85]

/-- The six stores leave `stepVal` in the tile. -/
theorem step_stores (s : Fin 3) (v24 : Vec F S1x5776x255 .f32) (x0 : Vec F S2x5776 .f32) (x1 : Vec F S4x2 .f32)
    (o0 p0 o1 p1 o2 p2 : Fin 3 → ℕ) (h0 : o0 = ![s.val, 0, 0]) (g0 : p0 = ![s.val, 0, 0]) (h1 : o1 = ![s.val, 0, 5776]) (g1 : p1 = ![s.val, 0, 5776])
    (h2 : o2 = ![s.val, 0, 11552]) (g2 : p2 = ![s.val, 0, 11552])
    (i0 : ∀ a, o0 a + S1x85x5776.size a ≤ S3x85x17328.size a) (j0 : ∀ a, p0 a + S1x5x5776.size a ≤ S3x85x17328.size a)
    (i1 : ∀ a, o1 a + S1x85x5776.size a ≤ S3x85x17328.size a) (j1 : ∀ a, p1 a + S1x5x5776.size a ≤ S3x85x17328.size a)
    (i2 : ∀ a, o2 a + S1x85x5776.size a ≤ S3x85x17328.size a) (j2 : ∀ a, p2 a + S1x5x5776.size a ≤ S3x85x17328.size a)
    (e : S3x85x17328.Idx → Elt F .f32) (x : Fin 85) (y : Fin 17328) :
    View.write (Elt F) (tbuf.access (Rect.unit (s := S3x85x17328) p2 S1x5x5776.size j2))
      (View.write (Elt F) (tbuf.access (Rect.unit (s := S3x85x17328) o2 S1x85x5776.size i2))
        (View.write (Elt F) (tbuf.access (Rect.unit (s := S3x85x17328) p1 S1x5x5776.size j1))
          (View.write (Elt F) (tbuf.access (Rect.unit (s := S3x85x17328) o1 S1x85x5776.size i1))
            (View.write (Elt F) (tbuf.access (Rect.unit (s := S3x85x17328) p0 S1x5x5776.size j0))
              (View.write (Elt F) (tbuf.access (Rect.unit (s := S3x85x17328) o0 S1x85x5776.size i0)) e
                (k0_pay8 (rowsOf (k0_pay1 v24) 0)) Finset.univ)
              (boxRows v24 x0 x1 0) Finset.univ)
            (k0_pay8 (rowsOf (k0_pay1 v24) 1)) Finset.univ)
          (boxRows v24 x0 x1 1) Finset.univ)
        (k0_pay8 (rowsOf (k0_pay1 v24) 2)) Finset.univ)
      (boxRows v24 x0 x1 2) Finset.univ (ix3 s x y) = stepVal v24 x0 x1 x y := by
  rw [band_stores s 11552 o2 p2 h2 g2, band_stores s 5776 o1 p1 h1 g1, band_stores s 0 o0 p0 h0 g0]
  have hy := y.isLt
  unfold stepVal
  by_cases c2 : 11552 ≤ y.val
  · rw [dif_pos ⟨c2, by omega⟩]
    have e1 : (⟨y.val / 5776, by omega⟩ : Fin 3) = 2 := Fin.ext (show y.val / 5776 = 2 by omega)
    have e2 : (⟨y.val % 5776, Nat.mod_lt _ (by decide)⟩ : Fin 5776) = ⟨y.val - 11552, by omega⟩ := Fin.ext (show y.val % 5776 = y.val - 11552 by omega)
    rw [e1, e2]
  · rw [dif_neg (by omega)]
    by_cases c1 : 5776 ≤ y.val
    · rw [dif_pos ⟨c1, by omega⟩]
      have e1 : (⟨y.val / 5776, by omega⟩ : Fin 3) = 1 := Fin.ext (show y.val / 5776 = 1 by omega)
      have e2 : (⟨y.val % 5776, Nat.mod_lt _ (by decide)⟩ : Fin 5776) = ⟨y.val - 5776, by omega⟩ := Fin.ext (show y.val % 5776 = y.val - 5776 by omega)
      rw [e1, e2]
    · rw [dif_neg (by omega), dif_pos ⟨Nat.zero_le _, by omega⟩]
      have e1 : (⟨y.val / 5776, by omega⟩ : Fin 3) = 0 := Fin.ext (show y.val / 5776 = 0 by omega)
      have e2 : (⟨y.val % 5776, Nat.mod_lt _ (by decide)⟩ : Fin 5776) = ⟨y.val - 0, by omega⟩ := Fin.ext (show y.val % 5776 = y.val - 0 by omega)
      rw [e1, e2]

variable (c : Dev nD) (G : S85x32x17328.Idx → Elt F .f32)

set_option maxHeartbeats 1000000 in
theorem part5_of (P Fr : sProp 𝕄) (t : Fin grid0.N) (arg1 : Memref sig .tc .vmem S2x5776 .f32) (harg1 : arg1.IsWhole) (arg2 : Memref sig .tc .smem S4x2 .f32) (harg2 : arg2.IsWhole)
    (v24 : Vec F S1x5776x255 .f32) (x0 : Vec F S2x5776 .f32) (x1 : Vec F S4x2 .f32) (arg0 v0 : BitVec 32)
    (hG : ∀ x y, stepVal v24 x0 x1 x y = G (ix3 x (Ring.bk 32 t.val) y))
    (h2 : ∀ K : (Σ' (arg0 : BitVec 32) (v0 : BitVec 32) (v26 : FVec F S255x5776 .f32) (v27 : Elt F .f32), FVec F S2x5776 .f32) → sProp 𝕄,
      iprop(P ∗ (iprop(owns (c : Thread nD τ) arg1 fullShare x0 ∗ owns (c : Thread nD τ) arg2 fullShare x1 ∗ wfree c (Ring.sl 3 t.val)
          ∗ (∃ f, piecePt c (Ring.bk 32 t.val) f) ∗ (∃ W', owes (c : Thread nD τ) 0 W') ∗ Fr) -∗ K ⟨arg0, v0, k0_pay1 v24, x1 (ix2 3 0), k0_pay2 x0⟩))
      ⊢ wp frame (wpE (defs₀ (F := F)) Variants.none c none) Set.univ
          (k0_part2 (grid0.coords t) arg1 harg1 arg2 harg2 pHbm (Memref.isWhole_whole _) oHbm (Memref.isWhole_whole _)
            xbuf (Memref.isWhole_whole _) tbuf (Memref.isWhole_whole _) cc0_scratch2 cc0_scratch3) K)
    (K : BitVec 32 → sProp 𝕄) :
    iprop(P ∗ (iprop(owns (c : Thread nD τ) arg1 fullShare x0 ∗ owns (c : Thread nD τ) arg2 fullShare x1
          ∗ winfl c G (Ring.sl 3 t.val) (Ring.bk 32 t.val) ∗ (∃ W', owes (c : Thread nD τ) 0 W') ∗ Fr) -∗ K arg0))
      ⊢ wp frame (wpE (defs₀ (F := F)) Variants.none c none) Set.univ
          (k0_part5 (grid0.coords t) arg1 harg1 arg2 harg2 pHbm (Memref.isWhole_whole _) oHbm (Memref.isWhole_whole _)
            xbuf (Memref.isWhole_whole _) tbuf (Memref.isWhole_whole _) cc0_scratch2 cc0_scratch3) K := by
  rw [k0_part5_eq_skeleton]; unfold k0_part5_skel
  rw [wp_bind]
  iintro ⟨HP, Hk⟩
  iapply h2
  isplitl [HP]; · iexact HP
  simp only [k0_part3_eq_skeleton, k0_part4_eq_skeleton]; unfold k0_part3_skel k0_part4_skel
  unfold owns wfree
  iintro ⟨⟨%f0, %hf0, H0⟩, ⟨%f1, %hf1, H1⟩, ⟨Hc, %e, Ht⟩, ⟨%f, Hp⟩, ⟨%W', HW⟩, HFr⟩
  obtain rfl := harg1.eq_unread hf0; obtain rfl := harg2.eq_unread hf1
  sl_exec
  have he : ∀ (x : Fin 85) (y : Fin 17328), part5_of.sl.Ht_w6 c t arg2 harg2 v24 x0 x1 e (ix3 (Ring.sl 3 t.val) x y) = G (ix3 x (Ring.bk 32 t.val) y) := by
    intro x y
    have q0 : part5_of.sl.r c arg2 harg2 x1 = x1 (ix2 0 0) := load_word arg2 harg2 x1 0 0 _ _
    have q1 : part5_of.sl.r_1 c arg2 harg2 x1 = x1 (ix2 0 1) := load_word arg2 harg2 x1 0 1 _ _
    have q2 : part5_of.sl.r_2 c arg2 harg2 x1 = x1 (ix2 1 0) := load_word arg2 harg2 x1 1 0 _ _
    have q3 : part5_of.sl.r_3 c arg2 harg2 x1 = x1 (ix2 1 1) := load_word arg2 harg2 x1 1 1 _ _
    have q4 : part5_of.sl.r_4 c arg2 harg2 x1 = x1 (ix2 2 0) := load_word arg2 harg2 x1 2 0 _ _
    have q5 : part5_of.sl.r_5 c arg2 harg2 x1 = x1 (ix2 2 1) := load_word arg2 harg2 x1 2 1 _ _
    rw [← hG, ← step_stores (Ring.sl 3 t.val) v24 x0 x1 _ _ _ _ _ _ (coff17 t) (coff18 t) (coff19 t) (coff20 t) (coff21 t) (coff22 t)
      (k0_off17_inb _) (k0_off18_inb _) (k0_off19_inb _) (k0_off20_inb _) (k0_off21_inb _) (k0_off22_inb _) e x y]
    unfold part5_of.sl.Ht_w6 part5_of.sl.Ht_w5 part5_of.sl.Ht_w4 part5_of.sl.Ht_w3 part5_of.sl.Ht_w2 part5_of.sl.Ht_w1
    rw [q0, q1, q2, q3, q4, q5]
    rfl
  sl_step
  iapply Hk
  isplitl [H0]
  · iexists _; isplitr; · ipureintro; exact harg1.read_unread _
    iexact H0
  isplitl [H1]
  · iexists _; isplitr; · ipureintro; exact harg2.read_unread _
    iexact H1
  isplitl [Hc]
  · unfold winfl
    iexists _
    iapply (wflight_intro c G _ _ _ f he); iexact Hc
  isplitl [HW]; · iexists _; iexact HW
  iexact HFr

end Cert.KernelIdeal.Body

end
-- ==== Proof.Ker.Body.lean ====
/- The kernel's body, from the invariant before a step to the invariant after it. -/
module

public import proofs.«01_k».proof.Proof.Ker.Invariant
public import proofs.«01_k».proof.Proof.Ker.Part2
public import proofs.«01_k».proof.Proof.Ker.Tail

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

section Step
variable (c : Dev nD) (W : S5776x32x255.Idx → Elt F .f32) (G : S85x32x17328.Idx → Elt F .f32)

/-- The loading part at every step: the input side moves on, the step's tile comes free, the block it carried has landed. -/
theorem part2_any (t : Fin grid0.N) (arg1 : Memref sig .tc .vmem S2x5776 .f32) (harg1 : arg1.IsWhole) (arg2 : Memref sig .tc .smem S4x2 .f32) (harg2 : arg2.IsWhole)
    (x0 : Vec F S2x5776 .f32) (x1 : Vec F S4x2 .f32) (Ws : Waits sig Unit)
    (K : (Σ' (arg0 : BitVec 32) (v0 : BitVec 32) (v26 : FVec F S255x5776 .f32) (v27 : Elt F .f32), FVec F S2x5776 .f32) → sProp 𝕄) :
    iprop((owns (c : Thread nD τ) arg1 fullShare x0 ∗ owns (c : Thread nD τ) arg2 fullShare x1 ∗ readAt c W t.val ∗ wrole c G t.val
          ∗ (∃ f, piecePt (F := F) c (Ring.bk 32 t.val) f) ∗ owes (c : Thread nD τ) 0 Ws)
        ∗ (iprop(owns (c : Thread nD τ) arg1 fullShare x0 ∗ owns (c : Thread nD τ) arg2 fullShare x1 ∗ wfree c (Ring.sl 3 t.val)
            ∗ (∃ f, piecePt c (Ring.bk 32 t.val) f) ∗ (∃ W', owes (c : Thread nD τ) 0 W') ∗ iprop(readAt c W (t.val + 1) ∗ backAt c G t.val)) -∗
          K ⟨BitVec.ofNat 32 (grid0.coords t 0).val, Scalar.remsi (BitVec.ofNat 32 (grid0.coords t 0).val) 3#32,
              k0_pay1 (xrow W (Ring.bk 32 t.val)), x1 (ix2 3 0), k0_pay2 x0⟩))
      ⊢ wp frame (wpE (defs₀ (F := F)) Variants.none c none) Set.univ
          (k0_part2 (grid0.coords t) arg1 harg1 arg2 harg2 pHbm (Memref.isWhole_whole _) oHbm (Memref.isWhole_whole _)
            xbuf (Memref.isWhole_whole _) tbuf (Memref.isWhole_whole _) cc0_scratch2 cc0_scratch3) K := by
  have hN : t.val < 32 := lt_of_lt_of_eq t.isLt N_0
  have e3 : (Ring.sl 3 (t.val + 1 + 2) : Fin 3) = Ring.sl 3 t.val := Ring.sl_add 3 t.val
  rw [readAt_pos c W (t.val + 1) (by omega), e3, show t.val + 1 + 1 = t.val + 2 from rfl]
  by_cases h0 : t.val = 0
  · have ht : t = t0 := Fin.ext h0
    rw [readAt_zero c W t.val h0, wrole_lt c G t.val (by omega), rrole_lt c W (t.val + 1) (by omega), rrole_lt c W (t.val + 2) (by omega), backAt_lt c G t.val (by omega)]
    subst ht
    iintro ⟨⟨H0, H1, ⟨Hr0, Hr1, Hr2⟩, Hw, Hp, HW⟩, Hk⟩
    iapply (part2_A c W arg1 harg1 arg2 harg2 ((hcFirst _).mpr h0) ((hcStart _).mpr (by omega)) (fun h => absurd ((hcWait _).mp h) (by omega)) x0 x1 Ws K)
    isplitl [H0]; · iexact H0
    isplitl [H1]; · iexact H1
    isplitl [Hr0]; · iexact Hr0
    isplitl [Hr1]; · iexact Hr1
    isplitl [Hr2]; · iexact Hr2
    isplitl [HW]; · iexact HW
    iintro ⟨H0, H1, Hr0, Hr1, Hr2, HW⟩
    iapply Hk
    isplitl [H0]; · iexact H0
    isplitl [H1]; · iexact H1
    isplitl [Hw]; · iexact Hw
    isplitl [Hp]; · iexact Hp
    isplitl [HW]; · iexact HW
    isplitl [Hr0 Hr1 Hr2]
    · isplitl [Hr1]; · iexact Hr1
      isplitl [Hr2]; · iexact Hr2
      iexact Hr0
    ipureintro; trivial
  · rw [readAt_pos c W t.val h0, rrole_lt c W t.val hN]
    have hF : ¬cFirst (grid0.coords t) := fun h => h0 ((hcFirst _).mp h)
    by_cases hs : t.val < 30
    · rw [rrole_lt c W (t.val + 2) (by omega)]
      by_cases hw : 3 ≤ t.val
      · rw [wrole_ge c G t.val (by omega), backAt_ge c G t.val hw]
        iintro ⟨⟨H0, H1, ⟨Hr0, Hr1, Hr2⟩, Hw, Hp, HW⟩, Hk⟩
        iapply (part2_C c W G t arg1 harg1 arg2 harg2 hF ((hcStart _).mpr hs) ((hcWait _).mpr hw) x0 x1 Ws K)
        isplitl [H0]; · iexact H0
        isplitl [H1]; · iexact H1
        isplitl [Hr0]; · iexact Hr0
        isplitl [Hr2]; · iexact Hr2
        isplitl [Hw]; · iexact Hw
        isplitl [HW]; · iexact HW
        iintro ⟨H0, H1, Hr0, Hr2, Hw, Hb, HW⟩
        iapply Hk
        isplitl [H0]; · iexact H0
        isplitl [H1]; · iexact H1
        isplitl [Hw]; · iexact Hw
        isplitl [Hp]; · iexact Hp
        isplitl [HW]; · iexact HW
        isplitl [Hr0 Hr1 Hr2]
        · isplitl [Hr1]; · iexact Hr1
          isplitl [Hr2]; · iexact Hr2
          iexact Hr0
        iexact Hb
      · rw [wrole_lt c G t.val (by omega), backAt_lt c G t.val hw]
        iintro ⟨⟨H0, H1, ⟨Hr0, Hr1, Hr2⟩, Hw, Hp, HW⟩, Hk⟩
        iapply (part2_B c W t arg1 harg1 arg2 harg2 hF ((hcStart _).mpr hs) (fun h => hw ((hcWait _).mp h)) x0 x1 Ws K)
        isplitl [H0]; · iexact H0
        isplitl [H1]; · iexact H1
        isplitl [Hr0]; · iexact Hr0
        isplitl [Hr2]; · iexact Hr2
        isplitl [HW]; · iexact HW
        iintro ⟨H0, H1, Hr0, Hr2, HW⟩
        iapply Hk
        isplitl [H0]; · iexact H0
        isplitl [H1]; · iexact H1
        isplitl [Hw]; · iexact Hw
        isplitl [Hp]; · iexact Hp
        isplitl [HW]; · iexact HW
        isplitl [Hr0 Hr1 Hr2]
        · isplitl [Hr1]; · iexact Hr1
          isplitl [Hr2]; · iexact Hr2
          iexact Hr0
        ipureintro; trivial
    · rw [rrole_ge c W (t.val + 2) (by omega), wrole_ge c G t.val (by omega), backAt_ge c G t.val (by omega)]
      iintro ⟨⟨H0, H1, ⟨Hr0, Hr1, Hr2⟩, Hw, Hp, HW⟩, Hk⟩
      iapply (part2_D c W G t arg1 harg1 arg2 harg2 hF (fun h => hs ((hcStart _).mp h)) ((hcWait _).mpr (by omega)) x0 x1 Ws K)
      isplitl [H0]; · iexact H0
      isplitl [H1]; · iexact H1
      isplitl [Hr0]; · iexact Hr0
      isplitl [Hw]; · iexact Hw
      isplitl [HW]; · iexact HW
      iintro ⟨H0, H1, Hr0, Hw, Hb, HW⟩
      iapply Hk
      isplitl [H0]; · iexact H0
      isplitl [H1]; · iexact H1
      isplitl [Hw]; · iexact Hw
      isplitl [Hp]; · iexact Hp
      isplitl [HW]; · iexact HW
      isplitl [Hr0 Hr1 Hr2]
      · isplitl [Hr1]; · iexact Hr1
        isplitl [Hr2]; · iexact Hr2
        iexact Hr0
      iexact Hb

set_option maxHeartbeats 800000 in
/-- The whole body at every step but the last. -/
theorem body_inner (t : Fin grid0.N) (arg1 : Memref sig .tc .vmem S2x5776 .f32) (harg1 : arg1.IsWhole) (arg2 : Memref sig .tc .smem S4x2 .f32) (harg2 : arg2.IsWhole)
    (x0 : Vec F S2x5776 .f32) (x1 : Vec F S4x2 .f32) (Ws : Waits sig Unit)
    (hG : ∀ x y, stepVal (xrow W (Ring.bk 32 t.val)) x0 x1 x y = G (ix3 x (Ring.bk 32 t.val) y)) (hc3 : ¬cLast (grid0.coords t))
    (K : PUnit → sProp 𝕄) :
    iprop((owns (c : Thread nD τ) arg1 fullShare x0 ∗ owns (c : Thread nD τ) arg2 fullShare x1 ∗ readAt c W t.val ∗ wrole c G t.val
          ∗ (∃ f, piecePt (F := F) c (Ring.bk 32 t.val) f) ∗ owes (c : Thread nD τ) 0 Ws)
        ∗ (iprop(owns (c : Thread nD τ) arg1 fullShare x0 ∗ owns (c : Thread nD τ) arg2 fullShare x1 ∗ winfl c G (Ring.sl 3 t.val) (Ring.bk 32 t.val)
            ∗ (∃ W', owes (c : Thread nD τ) 0 W') ∗ iprop(readAt c W (t.val + 1) ∗ backAt c G t.val)) -∗ K ⟨⟩))
      ⊢ wp frame (wpE (defs₀ (F := F)) Variants.none c none) Set.univ
          (cc0__decode_body (grid0.coords t) arg1 harg1 arg2 harg2 pHbm (Memref.isWhole_whole _) oHbm (Memref.isWhole_whole _)
            xbuf (Memref.isWhole_whole _) tbuf (Memref.isWhole_whole _) cc0_scratch2 cc0_scratch3) K := by
  haveI : Fact (¬cLast (grid0.coords t)) := ⟨hc3⟩
  rw [cc0__decode_body_eq_skeleton]; unfold cc0__decode_body_skel
  rw [wp_bind]
  iintro ⟨HP, Hk⟩
  iapply (part5_of c G _ _ t arg1 harg1 arg2 harg2 (xrow W (Ring.bk 32 t.val)) x0 x1 _ _ hG (part2_any c W G t arg1 harg1 arg2 harg2 x0 x1 Ws))
  isplitl [HP]; · iexact HP
  iintro HQ
  sl_exec (disch := sl_exact hc3)
  sl_step
  iapply Hk
  iexact HQ

set_option maxHeartbeats 1600000 in
/-- The whole body at the last step, which also waits for the copies of the last three blocks. -/
theorem body_last (t : Fin grid0.N) (arg1 : Memref sig .tc .vmem S2x5776 .f32) (harg1 : arg1.IsWhole) (arg2 : Memref sig .tc .smem S4x2 .f32) (harg2 : arg2.IsWhole)
    (x0 : Vec F S2x5776 .f32) (x1 : Vec F S4x2 .f32) (Ws : Waits sig Unit)
    (hG : ∀ x y, stepVal (xrow W (Ring.bk 32 t.val)) x0 x1 x y = G (ix3 x (Ring.bk 32 t.val) y)) (hc3 : cLast (grid0.coords t))
    (K : PUnit → sProp 𝕄) :
    iprop((owns (c : Thread nD τ) arg1 fullShare x0 ∗ owns (c : Thread nD τ) arg2 fullShare x1 ∗ readAt c W t.val ∗ wrole c G t.val
          ∗ (∃ f, piecePt (F := F) c (Ring.bk 32 t.val) f) ∗ owes (c : Thread nD τ) 0 Ws)
        ∗ winfl c G (Ring.sl 3 (t.val + 1)) (Ring.bk 32 (t.val - 2)) ∗ winfl c G (Ring.sl 3 (t.val + 2)) (Ring.bk 32 (t.val - 1))
        ∗ (iprop(owns (c : Thread nD τ) arg1 fullShare x0 ∗ owns (c : Thread nD τ) arg2 fullShare x1 ∗ (wfree (F := F) c (Ring.sl 3 t.val) ∗ piecePt c (Ring.bk 32 t.val) G)
            ∗ (wfree (F := F) c (Ring.sl 3 (t.val + 1)) ∗ piecePt c (Ring.bk 32 (t.val - 2)) G)
            ∗ (wfree (F := F) c (Ring.sl 3 (t.val + 2)) ∗ piecePt c (Ring.bk 32 (t.val - 1)) G)
            ∗ (∃ W', owes (c : Thread nD τ) 0 W') ∗ iprop(readAt c W (t.val + 1) ∗ backAt c G t.val)) -∗ K ⟨⟩))
      ⊢ wp frame (wpE (defs₀ (F := F)) Variants.none c none) Set.univ
          (cc0__decode_body (grid0.coords t) arg1 harg1 arg2 harg2 pHbm (Memref.isWhole_whole _) oHbm (Memref.isWhole_whole _)
            xbuf (Memref.isWhole_whole _) tbuf (Memref.isWhole_whole _) cc0_scratch2 cc0_scratch3) K := by
  haveI : Fact (cLast (grid0.coords t)) := ⟨hc3⟩
  rw [cc0__decode_body_eq_skeleton]; unfold cc0__decode_body_skel
  rw [wp_bind]
  iintro ⟨HP, HA, HB, Hk⟩
  iapply (part5_of c G _ _ t arg1 harg1 arg2 harg2 (xrow W (Ring.bk 32 t.val)) x0 x1 _ _ hG (part2_any c W G t arg1 harg1 arg2 harg2 x0 x1 Ws))
  isplitl [HP]; · iexact HP
  unfold winfl wfree
  iintro ⟨H0, H1, ⟨%e, HF⟩, ⟨%W', HW⟩, HR⟩
  icases HA with ⟨%ea, HA⟩
  icases HB with ⟨%eb, HB⟩
  sl_exec (disch := sl_exact hc3)
  sl_step
  iapply Hk
  isplitl [H0]; · iexact H0
  isplitl [H1]; · iexact H1
  isplitl [HF HF_dst HF_src]
  · isplitl [HF HF_src]
    · isplitl [HF]; · iexact HF
      iexists _; iexact HF_src
    iexact HF_dst
  isplitl [HA HA_dst HA_src]
  · isplitl [HA HA_src]
    · isplitl [HA]; · iexact HA
      iexists _; iexact HA_src
    iexact HA_dst
  isplitl [HB HB_dst HB_src]
  · isplitl [HB HB_src]
    · isplitl [HB]; · iexact HB
      iexists _; iexact HB_src
    iexact HB_dst
  isplitl [HW]; · iexists _; iexact HW
  iexact HR

/-- The body at any step: from the invariant before it to the invariant after it. -/
theorem body_step (t : Fin grid0.N) (arg1 : Memref sig .tc .vmem S2x5776 .f32) (harg1 : arg1.IsWhole) (arg2 : Memref sig .tc .smem S4x2 .f32) (harg2 : arg2.IsWhole)
    (x0 : Vec F S2x5776 .f32) (x1 : Vec F S4x2 .f32) (Ws : Waits sig Unit)
    (hG : ∀ x y, stepVal (xrow W (Ring.bk 32 t.val)) x0 x1 x y = G (ix3 x (Ring.bk 32 t.val) y))
    (K : PUnit → sProp 𝕄) :
    iprop(owns (c : Thread nD τ) arg1 fullShare x0 ∗ owns (c : Thread nD τ) arg2 fullShare x1 ∗ readAt c W t.val ∗ writeOrEnd c G t.val ∗ owes (c : Thread nD τ) 0 Ws
        ∗ (iprop(owns (c : Thread nD τ) arg1 fullShare x0 ∗ owns (c : Thread nD τ) arg2 fullShare x1 ∗ readAt c W (t.val + 1) ∗ writeOrEnd c G (t.val + 1) ∗ (∃ W', owes (c : Thread nD τ) 0 W')) -∗ K ⟨⟩))
      ⊢ wp frame (wpE (defs₀ (F := F)) Variants.none c none) Set.univ
          (cc0__decode_body (grid0.coords t) arg1 harg1 arg2 harg2 pHbm (Memref.isWhole_whole _) oHbm (Memref.isWhole_whole _)
            xbuf (Memref.isWhole_whole _) tbuf (Memref.isWhole_whole _) cc0_scratch2 cc0_scratch3) K := by
  have hN : t.val < 32 := lt_of_lt_of_eq t.isLt N_0
  rw [show writeOrEnd c G t.val = writeAt c G t.val from if_pos hN]
  by_cases hl : t.val = 31
  · rw [show writeOrEnd c G (t.val + 1) = writeEnd c G from if_neg (by omega)]
    iintro ⟨H0, H1, HR, Hwr, HW, Hk⟩
    ihave Hwr := (writeAt_open c G t.val hN) $$ Hwr
    icases Hwr with ⟨Hw, Hp, Hkeep⟩
    ihave Hkeep := (keepAt_last c G t.val hl) $$ Hkeep
    icases Hkeep with ⟨Ha, Hb, Hbeh⟩
    iapply (body_last c W G t arg1 harg1 arg2 harg2 x0 x1 Ws hG ((hcLast _).mpr hl) K)
    isplitl [H0 H1 HR Hw Hp HW]
    · isplitl [H0]; · iexact H0
      isplitl [H1]; · iexact H1
      isplitl [HR]; · iexact HR
      isplitl [Hw]; · iexact Hw
      isplitl [Hp]; · iexact Hp
      iexact HW
    isplitl [Ha]; · iexact Ha
    isplitl [Hb]; · iexact Hb
    iintro ⟨H0, H1, ⟨Hf0, Hp0⟩, ⟨Hf1, Hp1⟩, ⟨Hf2, Hp2⟩, HW, HR, Hbk⟩
    iapply Hk
    isplitl [H0]; · iexact H0
    isplitl [H1]; · iexact H1
    isplitl [HR]; · iexact HR
    isplitr [HW]
    · iapply (writeEnd_close c G t.val hl)
      isplitl [Hf0 Hp0]
      · isplitl [Hf0]; · iexact Hf0
        iexact Hp0
      isplitl [Hf1 Hp1]
      · isplitl [Hf1]; · iexact Hf1
        iexact Hp1
      isplitl [Hf2 Hp2]
      · isplitl [Hf2]; · iexact Hf2
        iexact Hp2
      isplitl [Hbk]; · iexact Hbk
      iexact Hbeh
    iexact HW
  · rw [show writeOrEnd c G (t.val + 1) = writeAt c G (t.val + 1) from if_pos (by omega)]
    iintro ⟨H0, H1, HR, Hwr, HW, Hk⟩
    ihave Hwr := (writeAt_open c G t.val hN) $$ Hwr
    icases Hwr with ⟨Hw, Hp, Hkeep⟩
    iapply (body_inner c W G t arg1 harg1 arg2 harg2 x0 x1 Ws hG (fun h => hl ((hcLast _).mp h)) K)
    isplitl [H0 H1 HR Hw Hp HW]
    · isplitl [H0]; · iexact H0
      isplitl [H1]; · iexact H1
      isplitl [HR]; · iexact HR
      isplitl [Hw]; · iexact Hw
      isplitl [Hp]; · iexact Hp
      iexact HW
    iintro ⟨H0, H1, Hf, HW, HR, Hbk⟩
    iapply Hk
    isplitl [H0]; · iexact H0
    isplitl [H1]; · iexact H1
    isplitl [HR]; · iexact HR
    isplitr [HW]
    · iapply (writeAt_close c G t.val hN)
      isplitl [Hf]; · iexact Hf
      isplitl [Hbk]; · iexact Hbk
      iexact Hkeep
    iexact HW

end Step

end Cert.KernelIdeal.Body

end
-- ==== Proof.Ker.Launch.lean ====
/- The launch: the region's proof data, the body at every step, and what every run ends with. -/
module

public import proofs.«01_k».proof.Proof.Ker.Rings
public import proofs.«01_k».proof.Proof.Ker.Body
public import proofs.«01_k».proof.Proof.Gen.KernelIdeal.Frame

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel leaves in its result -/

/-- The table of cell positions and the parameters, as step `t` finds them staged. -/
abbrev tableAt (c : Dev nD) (t : Fin grid0.N) : Vec F S2x5776 .f32 := iblk m c 0 t
abbrev paramsAt (c : Dev nD) (t : Fin grid0.N) : Vec F S4x2 .f32 := iblk m c 1 t
def stepOf (u : Fin 32) : Fin grid0.N := ⟨u.val, by rw [N_0]; exact u.isLt⟩
/-- The kernel's result: block `u` is what step `u` computes from block `u` of the transposed predictions. -/
def resultOf (c : Dev nD) : S85x32x17328.Idx → Elt F .f32 :=
  outOf fun u => stepVal (xrow (V m c main_v3) u) (tableAt m c (stepOf u)) (paramsAt m c (stepOf u))

theorem stepOf_bk (t : Fin grid0.N) : stepOf (Ring.bk 32 t.val) = t :=
  Fin.ext (Ring.bk_val (lt_of_lt_of_eq t.isLt N_0))

theorem resultOf_step (c : Dev nD) (t : Fin grid0.N) (x : Fin 85) (y : Fin 17328) :
    stepVal (xrow (V m c main_v3) (Ring.bk 32 t.val)) (tableAt m c t) (paramsAt m c t) x y = resultOf m c (ix3 x (Ring.bk 32 t.val) y) := by
  show _ = stepVal (xrow (V m c main_v3) (Ring.bk 32 t.val)) (tableAt m c (stepOf (Ring.bk 32 t.val))) (paramsAt m c (stepOf (Ring.bk 32 t.val))) x y
  rw [stepOf_bk]

/-! ## The pipeline's proof data -/

def phiAt (c : Dev nD) (k : ℕ) : sProp 𝕄 := iprop(readAt c (V m c main_v3) k ∗ writeOrEnd c (resultOf m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := phiAt m c t.val
  q _ := fullShare
  owed _ := 0

theorem A_eq (c : Dev nD) (w : Fin cfg0.W) : (dats m 0 c).A w = V m c (Pipeline.arrRef spec0 w) := by dsimp only [dats]
theorem phi_castSucc (c : Dev nD) (t : Fin cfg0.N) : (dats m 0 c).Φ t.castSucc = phiAt m c t.val := by
  dsimp only [dats]; simp only [Fin.coe_castSucc]
theorem phi_succ (c : Dev nD) (t : Fin cfg0.N) : (dats m 0 c).Φ t.succ = phiAt m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

/-- Each staged operand holds its block at every step. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, phi_castSucc m c t, phi_succ m c t]
  unfold Dat.owesAt Pipeline.owesWithin phiAt
  rw [show (dats m 0 c).owed t.castSucc = 0 from rfl, show (dats m 0 c).owed t.succ = 0 from rfl]
  iintro ⟨⟨HR, HWr⟩, ⟨%Ws, -, HW⟩, ⟨%d0, H0⟩, ⟨%d1, H1⟩⟩
  iapply (body_step c (V m c main_v3) (resultOf m c) t _ _ _ _ (tableAt m c t) (paramsAt m c t) Ws (resultOf_step m c t) _)
  isplitl [H0]; · iexact H0
  isplitl [H1]; · iexact H1
  isplitl [HR]; · iexact HR
  isplitl [HWr]; · iexact HWr
  isplitl [HW]; · iexact HW
  iintro ⟨H0, H1, HR, HWr, ⟨%W', HW'⟩⟩
  isplitl [HR HWr]
  · isplitl [HR]; · iexact HR
    iexact HWr
  isplitl [HW']
  · iexists W'; isplitr; · ipureintro; exact fun _ _ => Or.inl trivial
    iexact HW'
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's result arrays at its end. -/
def Gfun (c : Dev nD) (b : Ref sig .tc) : Buf (Elt F) ((c : Thread nD τ).loc b) :=
  if h : b = main_v18 then h ▸ (resultOf m c : Buf (Elt F) ((c : Thread nD τ).loc main_v18)) else V m c b
theorem Gfun_out (c : Dev nD) : Gfun m c main_v18 = resultOf m c := by unfold Gfun; rw [dif_pos rfl]

theorem hin (c : Dev nD) : Pipeline.ΦDRV osem0 spec0 H0 R0 (V m) (V m) c ⊢ (dats m 0 c).Φ 0 := by
  rw [handed_list, show (dats m 0 c).Φ 0 = phiAt m c 0 from rfl]
  exact rings_in c (resultOf m c) (V m c main_v3) (V m c main_v18)
theorem hout (c : Dev nD) : (dats m 0 c).Φ (Fin.last cfg0.N) ⊢ Pipeline.ΦDRV osem0 spec0 H0 R0 (V m) (Gfun m) c := by
  rw [handed_list, Gfun_out, show (dats m 0 c).Φ (Fin.last cfg0.N) = phiAt m c grid0.N from rfl, show grid0.N = 32 from N_0]
  exact rings_out c (V m c main_v3) (resultOf m c)

/-! ## The launch -/

set_option maxHeartbeats 800000 in
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The buffers when the region has ended, before the last host line. -/
abbrev endVal (c : Dev nD) : Valuation τ sig (Elt F) :=
  Pipeline.withArrays spec0 c (Pipeline.withR (V0 m c) R0 c (Gfun m c)) fun w => (dats m 0 c).arrAt w cfg0.N

set_option backward.isDefEq.respectTransparency.types false in
set_option maxHeartbeats 800000 in
/-- Every weakly fair run terminates; at its end every buffer no window stages holds what the host lines leave, and every counter is zero. -/
theorem run_all : θ_run defs (onTc (τ := τ) (main (F := F))) (s₀ m ρ) (fun r =>
    (∀ c : Dev nD, ∀ b ∈ Pipeline.restRefs sig spec0, r.2.mem ((c : Thread nD τ).loc b)
      = StableHlo.after hostOps1 (endVal m c) (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (fun c => (body_obligation m c).loose) (fun c => (dats m 0 c).share_full fun _ => rfl)
    (fun _ _ => rfl) (V0 m) [hostOps1] sfx_sub sfx_fresh sfx_keeps (Gfun m)
    (main_around m) (A_eq m) (hin m) (hout m) _ (fun r h => ⟨fun c b hb => (h.1 c).2 b hb, h.2⟩)

end Cert.KernelIdeal.Body

end
-- ==== Proof.Ker.End.lean ====
/- What every run of the program ends with. -/
module

public import proofs.«01_k».proof.Proof.Ker.Launch

@[expose] public section

-- the long axes: membership in a rectangle recurses once per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer the last host line and the region leave alone ends as the region found it. -/
theorem end_kept (c : Dev nD) (b : Ref sig .tc) (h19 : b ≠ main_v19) (h18 : b ∉ R0) (hw : ∀ w, Pipeline.arrRef spec0 w ≠ b) :
    StableHlo.after hostOps1 (endVal m c) (Proc.devRef .tc b) = V m c b := by
  rw [StableHlo.after_of_forall_not_mem (b := Proc.devRef .tc b) _ _ (List.forall_iff_forall_mem.mp (by
      simp only [hostOps1, List.Forall, StableHlo.unary_writes, Finset.mem_singleton]
      exact StableHlo.devRef_ne_of_ne h19))]
  show Pipeline.withArrays spec0 c _ _ (Proc.devRef .tc b) = _
  rw [Pipeline.withArrays_of_ne _ c _ _ b hw, Pipeline.withR_of_not_mem _ _ _ _ _ h18]

/-- The result of the program: the kernel's result, its axes in the order (block, row, channel). -/
theorem end_result (c : Dev nD) :
    StableHlo.after hostOps1 (endVal m c) (Proc.devRef .tc main_v19)
      = transpose S32x17328x85 [1, 2, 0] (resultOf m c) transposes_S85x32x17328_S32x17328x85_1_2_0 := by
  have e : endVal m c (Proc.devRef .tc main_v18) = resultOf m c := by
    show Pipeline.withArrays spec0 c _ _ (Proc.devRef .tc main_v18) = _
    rw [Pipeline.withArrays_of_ne _ c _ _ main_v18 (by exact (by decide : ∀ w, Pipeline.arrRef spec0 w ≠ main_v18)), Pipeline.withR_of_mem _ _ _ _ _ (by decide)]
    exact Gfun_out m c
  rw [← e]
  rfl

/-- Every run ends with the arguments unchanged, the result `resultOf` transposed, and every counter at zero. -/
theorem run_result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v19) = transpose S32x17328x85 [1, 2, 0] (resultOf m c) transposes_S85x32x17328_S32x17328x85_1_2_0)
      ∧ r.2.sem = fun _ => 0) :=
  (θ_run defs _ _).mono (fun r h => ⟨fun c => ⟨⟨
      ((h.1 c main_arg0 (Pipeline.mem_restRefs_of main_arg0 (by decide) (by decide))).trans (end_kept m c main_arg0 (by decide) (by decide) (by exact (by decide : ∀ w, Pipeline.arrRef spec0 w ≠ main_arg0)))).trans (V_main_arg0 m c),
      ((h.1 c main_arg1 (Pipeline.mem_restRefs_of main_arg1 (by decide) (by decide))).trans (end_kept m c main_arg1 (by decide) (by decide) (by exact (by decide : ∀ w, Pipeline.arrRef spec0 w ≠ main_arg1)))).trans (V_main_arg1 m c),
      ((h.1 c main_arg2 (Pipeline.mem_restRefs_of main_arg2 (by decide) (by decide))).trans (end_kept m c main_arg2 (by decide) (by decide) (by exact (by decide : ∀ w, Pipeline.arrRef spec0 w ≠ main_arg2)))).trans (V_main_arg2 m c)⟩,
      (h.1 c main_v19 (Pipeline.mem_restRefs_of main_v19 (by decide) (by decide))).trans (end_result m c)⟩, h.2⟩) (run_all m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).1, h.2⟩) (run_result m ρ)

end Cert.KernelIdeal.Body

end
-- ==== Proof.Val.Entry.lean ====
/-
  One number of the result, as mathematics over the extended reals, and the laws by which two ways of computing it agree.
-/
module

public import Idealize.ShloMosaic.Lib.Pointwise
public import Idealize.ShloMosaic.Lib.IdealHost

@[expose] public section

noncomputable section

namespace Cert.Box

open Idealize.ShloMosaic

/-! ## The numbers that occur -/

/-- A natural number as an extended real. -/
def num (n : ℕ) : EReal := ((n : ℝ) : EReal)

/-- The pixels a cell is wide: the image size over the 76 cells of a side. -/
def stride (w : BitVec 32) : EReal := Ideal.div (FloatOps.sitofp (F := Ideal) FTy.f32 w) (Ideal.ofBits FTy.f32 0x42980000#32)

/-- The word the programs hold for 76 is 76. -/
theorem ofBits_76 : Ideal.ofBits .f32 0x42980000#32 = ((76 : ℝ) : EReal) := by
  simp [Ideal.ofBits, Ideal.ieee, -EReal.coe_mul]; norm_num

/-- The stride is a real number. -/
theorem stride_eq (w : BitVec 32) : stride w = (((w.toInt : ℝ) * (1 / 76) : ℝ) : EReal) := by
  unfold stride
  rw [ofBits_76, Ideal.div_coe (by norm_num), EReal.coe_mul]
  rfl

/-- The stride of an image size other than zero is not zero. -/
theorem stride_ne_zero (w : BitVec 32) (h : w ≠ 0#32) : (w.toInt : ℝ) * (1 / 76) ≠ 0 := by
  have : w.toInt ≠ 0 := fun e => h (BitVec.toInt_inj.mp (by simpa using e))
  exact mul_ne_zero (Int.cast_ne_zero.mpr this) (by norm_num)

/-- A small natural number written as a word and converted is that number. -/
theorem sitofp_ofNat (n : ℕ) (h : n < 2 ^ 31) : (FloatOps.sitofp (F := Ideal) FTy.f32 (BitVec.ofNat 32 n)) = num n := by
  show (((BitVec.ofNat 32 n).toInt : ℝ) : EReal) = _
  have e : (BitVec.ofNat 32 n).toNat = n := by rw [BitVec.toNat_ofNat]; exact Nat.mod_eq_of_lt (by omega)
  rw [BitVec.toInt_eq_toNat_of_lt (by omega), e]
  simp [num]

/-- The logistic of any extended real is a real. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-! ## An entry of the result -/

/-- Channel `k` of a cell in column `gx` and row `gy` whose prediction there is `x`: the centre for `k = 0, 1`, the size for
    `k = 2, 3` of an anchor `a0` by `a1`, the confidence for `k = 4`, and the class scores, unchanged, above. `w` is the image size. -/
def entry (x : EReal) (k : ℕ) (w : BitVec 32) (a0 a1 : EReal) (gx gy : ℕ) : EReal :=
  if k = 0 then (Ideal.logistic x + num gx) * stride w
  else if k = 1 then (Ideal.logistic x + num gy) * stride w
  else if k = 2 then Ideal.exp x * Ideal.div a0 (stride w) * stride w
  else if k = 3 then Ideal.exp x * Ideal.div a1 (stride w) * stride w
  else if k = 4 then Ideal.logistic x
  else x

/-- From the fifth channel on the prediction is the result. -/
theorem entry_scores (x : EReal) (k : ℕ) (w : BitVec 32) (a0 a1 : EReal) (gx gy : ℕ) (h : 5 ≤ k) : entry x k w a0 a1 gx gy = x := by
  unfold entry
  rw [if_neg (by omega), if_neg (by omega), if_neg (by omega), if_neg (by omega), if_neg (by omega)]

/-! ## The laws -/

/-- A centre: scaling the sum is the sum of the scaled parts. -/
theorem centre (x : EReal) (n : ℕ) (w : BitVec 32) :
    Ideal.logistic x * stride w + num n * stride w = (Ideal.logistic x + num n) * stride w := by
  obtain ⟨r, hr⟩ := logistic_real x
  rw [hr, stride_eq, num]
  norm_cast
  ring

/-- A size: dividing an anchor by the stride and multiplying by it again changes nothing, the stride not being zero. -/
theorem size (x a : EReal) (w : BitVec 32) (h : w ≠ 0#32) :
    Ideal.exp x * Ideal.div a (stride w) * stride w = Ideal.exp x * a := by
  have hs := stride_ne_zero w h
  rw [stride_eq, Ideal.div_coe hs, mul_assoc, mul_assoc, ← EReal.coe_mul, one_div, inv_mul_cancel₀ hs]
  simp

/-! ## The column and the row of a cell -/

/-- The whole part of a quotient of natural numbers by 76. -/
theorem floor_quotient (n : ℕ) : ⌊(n : ℝ) / ((76 : ℕ) : ℝ)⌋ = ((n / 76 : ℕ) : ℤ) := by
  have h := Nat.div_add_mod n 76
  have hlt := Nat.mod_lt n (show 76 > 0 by decide)
  generalize n / 76 = a at h ⊢
  generalize n % 76 = b at h hlt
  have hb : (b : ℝ) < 76 := by exact_mod_cast hlt
  have hb0 : (0 : ℝ) ≤ b := Nat.cast_nonneg b
  rw [← h, Int.floor_eq_iff]
  push_cast
  constructor <;> [rw [le_div_iff₀ (by norm_num)]; rw [div_lt_iff₀ (by norm_num)]] <;> linarith

/-- The remainder of a natural number by 76, the quotient rounded toward zero. -/
theorem remf_76 (n : ℕ) : Ideal.remf (num n) (num 76) = num (n % 76) := by
  have h76 : ((76 : ℕ) : ℝ) ≠ 0 := by norm_num
  rw [num, num, num, Ideal.remf_coe, if_neg h76]
  have ht : Ideal.truncInt ((n : ℝ) / ((76 : ℕ) : ℝ)) = ((n / 76 : ℕ) : ℤ) := by
    rw [Ideal.truncInt, if_pos (by positivity), floor_quotient]
  rw [ht]
  congr 1
  have := Nat.div_add_mod n 76
  have h2 : (n : ℝ) = 76 * ((n / 76 : ℕ) : ℝ) + ((n % 76 : ℕ) : ℝ) := by exact_mod_cast this.symm
  rw [Int.cast_natCast]
  push_cast
  linarith

/-- The quotient of a natural number by 76, rounded down. -/
theorem floor_76 (n : ℕ) : Ideal.liftRound Int.floor (Ideal.div (num n) (Ideal.ofBits .f32 0x42980000#32)) = num (n / 76) := by
  rw [ofBits_76, Ideal.div_coe (by norm_num), num, ← EReal.coe_mul, Ideal.liftRound_coe, num,
    show (n : ℝ) * (1 / 76) = (n : ℝ) / ((76 : ℕ) : ℝ) by push_cast; ring, floor_quotient, Int.cast_natCast]

/-- The correction that makes a remainder take the divisor's sign does nothing between natural numbers. -/
theorem column (n : ℕ) :
    Scalar.select (IntOp.andi
        (IntOp.cmpi .ne (BitVec.ofBool (decide (Ideal.remf (num n) (num 76) < 0))) (BitVec.ofBool (decide (num 76 < 0))))
        (BitVec.ofBool (decide (Ideal.remf (num n) (num 76) ≠ 0))))
      (Ideal.remf (num n) (num 76) + num 76) (Ideal.remf (num n) (num 76)) = num (n % 76) := by
  have hn (k : ℕ) : ¬ num k < 0 := by
    rw [num, not_lt]; exact_mod_cast Nat.zero_le k
  rw [remf_76, decide_eq_false (hn _), decide_eq_false (hn _)]
  cases decide (num (n % 76) ≠ 0) <;> rfl

end Cert.Box

end
-- ==== Proof.Val.Host.lean ====
/- What the host computes before the kernel: the predictions with the cells first, the cells' corners, the sizes. -/
module

public import proofs.«01_k».proof.Proof.Ker.Launch
public import proofs.«01_k».proof.Proof.Val.Entry
public import Idealize.ShloMosaic.Lib.Pointwise
public import Idealize.ShloMosaic.Lib.IdealHost

@[expose] public section

noncomputable section

namespace Cert.KernelIdeal.Body

open Idealize.ShloMosaic Idealize.ShloMosaic.TcCoe Cert.KernelIdeal.Gen

/-- The image size over the 76 cells of a side, as the program's scalar. -/
def strideVec (img : IVec S_ 32) : FVec Ideal S_ .f32 := Host.divf (sitofp .f32 img) (constant S_ .f32 0x42980000#32)

/-- The cells' numbers as floats. -/
def cellVec : FVec Ideal S5776 .f32 := sitofp .f32 (iotaInDim S5776 32 0)

/-- The cells' numbers modulo 76, as the program takes a remainder. -/
def columnVec : FVec Ideal S5776 .f32 :=
  select (andi
      (cmpi .ne
        (cmpf .olt (Host.remf cellVec (broadcastInDim S5776 ![] bcast_S_S5776 (sitofp .f32 (constantI S_ 32 76#32))))
          (broadcastInDim S5776 ![] bcast_S_S5776 (constant S_ .f32 0x00000000#32)))
        (broadcastInDim S5776 ![] bcast_S_S5776 (cmpf .olt (sitofp .f32 (constantI S_ 32 76#32)) (constant (F := Ideal) S_ .f32 0x00000000#32))))
      (cmpf .une (Host.remf cellVec (broadcastInDim S5776 ![] bcast_S_S5776 (sitofp .f32 (constantI S_ 32 76#32))))
        (broadcastInDim S5776 ![] bcast_S_S5776 (constant S_ .f32 0x00000000#32))))
    (addf (Host.remf cellVec (broadcastInDim S5776 ![] bcast_S_S5776 (sitofp .f32 (constantI S_ 32 76#32))))
      (broadcastInDim S5776 ![] bcast_S_S5776 (sitofp .f32 (constantI S_ 32 76#32))))
    (Host.remf cellVec (broadcastInDim S5776 ![] bcast_S_S5776 (sitofp .f32 (constantI S_ 32 76#32))))

/-- The cells' numbers divided by 76 and rounded down. -/
def rowVec : FVec Ideal S5776 .f32 :=
  Host.floor (Host.divf cellVec (broadcastInDim S5776 ![] bcast_S_S5776 (constant S_ .f32 0x42980000#32)))

/-- The two rows of cell corners in pixels. -/
def cornerVec (img : IVec S_ 32) : FVec Ideal S2x5776 .f32 :=
  concatenate S2x5776 0
    [⟨S1x5776, broadcastInDim S1x5776 ![1] bcast_S5776_S1x5776_1
        (mulf columnVec (broadcastInDim S5776 ![] bcast_S_S5776 (strideVec img)))⟩,
     ⟨S1x5776, broadcastInDim S1x5776 ![1] bcast_S5776_S1x5776_1
        (mulf rowVec (broadcastInDim S5776 ![] bcast_S_S5776 (strideVec img)))⟩]
    concatenates_S1x5776_S1x5776_S2x5776_d0

/-- The three anchors' sizes, and the stride twice below them. -/
def sizesVec (anchors : FVec Ideal S3x2 .f32) (img : IVec S_ 32) : FVec Ideal S4x2 .f32 :=
  concatenate S4x2 0 [⟨S3x2, anchors⟩, ⟨S1x2, broadcastInDim S1x2 ![] bcast_S_S1x2 (strideVec img)⟩]
    concatenates_S3x2_S1x2_S4x2_d0

/-- The prediction with the cells first. -/
def cellsFirst (p : FVec Ideal S32x255x76x76 .f32) : FVec Ideal S5776x32x255 .f32 :=
  shapeCast S5776x32x255 (transpose S76x76x32x255 [2, 3, 0, 1] p transposes_S32x255x76x76_S76x76x32x255_2_3_0_1)
    shapeCasts_S76x76x32x255_S5776x32x255

variable (m : (ℓ : Loc nD τ sig) → Buf (Elt Ideal) ℓ)

/-! ## The kernel's operands as it finds them -/

/-- The kernel's parameters are the anchors and the stride. -/
theorem V_main_v17 (c : Dev nD) : V m c main_v17 = sizesVec (m ((c : Thread nD τ).loc main_arg1)) (m ((c : Thread nD τ).loc main_arg2)) := by
  simp only [V, V0, hostOps0, hostOps0_1, hostOps0_2, List.flatten_cons, List.flatten_nil, List.cons_append, List.nil_append, List.append_nil]
  after_results
  rfl

/-- The kernel's predictions are the launch's with the cells first. -/
theorem V_main_v3 (c : Dev nD) : V m c main_v3 = cellsFirst (m ((c : Thread nD τ).loc main_arg0)) := by
  simp only [V, V0, hostOps0, hostOps0_1, hostOps0_2, List.flatten_cons, List.flatten_nil, List.cons_append, List.nil_append, List.append_nil]
  after_results_simp
  rfl

/-- The kernel's table is the cells' corners. -/
theorem V_main_v15 (c : Dev nD) : V m c main_v15 = cornerVec (m ((c : Thread nD τ).loc main_arg2)) := by
  simp only [V, V0, hostOps0, hostOps0_1, hostOps0_2, List.flatten_cons, List.flatten_nil, List.cons_append, List.nil_append, List.append_nil]
  after_results
  rfl

/-! ## The blocks a step stages: each is its whole array -/

/-- A place in the staged table is the same place in the table. -/
theorem tab_place (t : Fin grid0.N) (j : S2x5776.Idx) : ((cfg0.win 0).blk t).view.emb j = j := by
  have h0 : win0_0.index t (0 : Fin 2) * 2 + 1 * (j 0).val < 2 := (((cfg0.win 0).blk t).view.emb j (0 : Fin 2)).isLt
  have h1 : win0_0.index t (1 : Fin 2) * 5776 + 1 * (j 1).val < 5776 := (((cfg0.win 0).blk t).view.emb j (1 : Fin 2)).isLt
  funext a
  apply Fin.ext
  match a with
  | ⟨0, _⟩ => show win0_0.index t (0 : Fin 2) * 2 + 1 * (j 0).val = (j 0).val; omega
  | ⟨1, _⟩ => show win0_0.index t (1 : Fin 2) * 5776 + 1 * (j 1).val = (j 1).val; omega

/-- A place in the staged parameters is the same place in the parameters. -/
theorem par_place (t : Fin grid0.N) (j : S4x2.Idx) : ((cfg0.win 1).blk t).view.emb j = j := by
  have h0 : win0_1.index t (0 : Fin 2) * 4 + 1 * (j 0).val < 4 := (((cfg0.win 1).blk t).view.emb j (0 : Fin 2)).isLt
  have h1 : win0_1.index t (1 : Fin 2) * 2 + 1 * (j 1).val < 2 := (((cfg0.win 1).blk t).view.emb j (1 : Fin 2)).isLt
  funext a
  apply Fin.ext
  match a with
  | ⟨0, _⟩ => show win0_1.index t (0 : Fin 2) * 4 + 1 * (j 0).val = (j 0).val; omega
  | ⟨1, _⟩ => show win0_1.index t (1 : Fin 2) * 2 + 1 * (j 1).val = (j 1).val; omega

/-- Every step finds the whole table staged. -/
theorem tableAt_eq (c : Dev nD) (t : Fin grid0.N) : tableAt m c t = V m c main_v15 :=
  funext fun j => by show V m c main_v15 (((cfg0.win 0).blk t).view.emb j) = _; rw [tab_place]

/-- Every step finds all the parameters staged. -/
theorem paramsAt_eq (c : Dev nD) (t : Fin grid0.N) : paramsAt m c t = V m c main_v17 :=
  funext fun j => by show V m c main_v17 (((cfg0.win 1).blk t).view.emb j) = _; rw [par_place]

/-! ## Their entries -/

/-- The remainder at cell `q` is its column. -/
theorem columnVec_apply (q : Fin 5776) : columnVec (ix1 q) = Box.num (q.val % 76) := by
  pointwise [columnVec, cellVec]
  have e : FloatOps.sitofp (F := Ideal) FTy.f32 76#32 = Box.num 76 := Box.sitofp_ofNat 76 (by decide)
  rw [Box.sitofp_ofNat q.val (by omega), e]
  exact Box.column q.val

/-- The rounded quotient at cell `q` is its row. -/
theorem rowVec_apply (q : Fin 5776) : rowVec (ix1 q) = Box.num (q.val / 76) := by
  pointwise [rowVec, cellVec]
  rw [Box.sitofp_ofNat q.val (by omega)]
  exact Box.floor_76 q.val

/-- The corners: the column times the stride, then the row times the stride. -/
theorem cornerVec_apply (img : IVec S_ 32) (x : Fin 2) (q : Fin 5776) :
    cornerVec img (ix2 x q) = (if x.val < 1 then Box.num (q.val % 76) else Box.num (q.val / 76)) * Box.stride (img ix0) := by
  pointwise [cornerVec, strideVec]
  rw [columnVec_apply, rowVec_apply]
  split <;> rfl

/-- The first three rows of the parameters are the anchors. -/
theorem sizesVec_anchor (anchors : FVec Ideal S3x2 .f32) (img : IVec S_ 32) (x : Fin 3) (q : Fin 2) :
    sizesVec anchors img (ix2 ⟨x.val, by omega⟩ q) = anchors (ix2 x q) := by
  pointwise [sizesVec, strideVec]

/-- The last row of the parameters is the stride. -/
theorem sizesVec_stride (anchors : FVec Ideal S3x2 .f32) (img : IVec S_ 32) (q : Fin 2) :
    sizesVec anchors img (ix2 3 q) = Box.stride (img ix0) := by
  pointwise [sizesVec, strideVec]
  rfl

/-- The prediction of cell `q` is the one at row `q / 76` and column `q % 76`. -/
theorem cellsFirst_apply (p : FVec Ideal S32x255x76x76 .f32) (q : Fin 5776) (u : Fin 32) (k : Fin 255) :
    cellsFirst p (ix3 q u k) = p (ix4 u k ⟨q.val / 76, by omega⟩ ⟨q.val % 76, by omega⟩) := by
  pointwise [cellsFirst]

end Cert.KernelIdeal.Body

end
-- ==== Proof.Val.Tile.lean ====
/- What a step of the kernel computes, read entry by entry. -/
module

public import proofs.«01_k».proof.Proof.Val.Host

@[expose] public section

noncomputable section

namespace Cert.KernelIdeal.Body

open Idealize.ShloMosaic Idealize.ShloMosaic.TcCoe Cert.KernelIdeal.Gen

/-- The rows of the block the step transposes. -/
theorem rowsOf_apply (b : FVec Ideal S1x5776x255 .f32) (a : Fin 3) (x : Fin 85) (q : Fin 5776) :
    rowsOf (k0_pay1 b) a (ix2 x q) = b (ix3 0 q ⟨a.val * 85 + x.val, by omega⟩) := by
  match a with
  | 0 => pointwise [rowsOf, k0_pay4, k0_pay1]
  | 1 => pointwise [rowsOf, k0_pay7, k0_pay1]
  | 2 => pointwise [rowsOf, k0_pay10, k0_pay1]

/-- The bias: the cells' corners in the first two rows, zero in the other three. -/
theorem bias_apply (g : FVec Ideal S2x5776 .f32) (x : Fin 5) (q : Fin 5776) :
    k0_pay3 (F := Ideal) (k0_pay2 g) (ix2 x q) = if h : x.val < 2 then g (ix2 ⟨x.val, h⟩ q) else 0 := by
  pointwise [k0_pay3, k0_pay2]
  simp

/-- The five decoded channels, before the bias is known. -/
def decoded (x s a0 a1 bias : EReal) (k : ℕ) : EReal :=
  (if k = 2 ∨ k = 3 then Ideal.exp x else Ideal.logistic x) * (if k < 2 then s else if k = 2 then a0 else if k = 3 then a1 else 1) + bias

/-- The decoded rows, from the anchor's rows, the scale of each row and the bias. -/
theorem decoded_rows (s : EReal) (bias : FVec Ideal S5x5776 .f32) (w : FVec Ideal S85x5776 .f32) (a0 a1 : EReal) (x : Fin 5) (q : Fin 5776) :
    k0_pay9 (F := Ideal) s bias (iota .tc S5x5776 32 [0] iota_S5x5776_d0_w32) w a0 a1 (ix3 0 x q)
      = decoded (w (ix2 ⟨x.val, by omega⟩ q)) s a0 a1 (bias (ix2 x q)) x.val := by
  pointwise [k0_pay9]
  match x with
  | 0 => rfl
  | 1 => rfl
  | 2 => rfl
  | 3 => rfl
  | 4 => rfl

/-- The channels copied unchanged. -/
theorem copied_rows (w : FVec Ideal S85x5776 .f32) (x : Fin 85) (q : Fin 5776) :
    k0_pay8 (F := Ideal) w (ix3 0 x q) = w (ix2 x q) := by
  pointwise [k0_pay8]

end Cert.KernelIdeal.Body

end
-- ==== Proof.Val.Reference.lean ====
/- What the reference computes, read entry by entry. -/
module

public import proofs.«01_k».proof.Proof.Gen.ReferenceIdeal.Run
public import proofs.«01_k».proof.Proof.Val.Entry
public import Idealize.ShloMosaic.Lib.Pointwise
public import Idealize.ShloMosaic.Lib.IdealHost

@[expose] public section

noncomputable section

namespace Cert.ReferenceIdeal.Body

open Idealize.SL.Sem Idealize.ShloMosaic Idealize.ShloMosaic.TcCoe Cert.ReferenceIdeal.Gen Cert.ReferenceIdeal

/-! ## The reference's array, piece by piece -/

/-- The predictions by image, anchor, row, column and channel. -/
def channelsLast (p : FVec Ideal S32x255x76x76 .f32) : FVec Ideal S32x3x76x76x85 .f32 :=
  transpose S32x3x76x76x85 [0, 1, 3, 4, 2] (shapeCast S32x3x85x76x76 p shapeCasts_S32x255x76x76_S32x3x85x76x76)
    transposes_S32x3x85x76x76_S32x3x76x76x85_0_1_3_4_2

/-- The image size over the 76 cells of a side. -/
def strideVec (i : IVec S_ 32) : FVec Ideal S_ .f32 := Host.divf (sitofp .f32 i) (constant S_ .f32 0x42980000#32)

/-- At row `y` and column `x` of a 76 by 76 table, the number `x`. -/
def columns : FVec Ideal S1x1x76x76 .f32 :=
  shapeCast S1x1x76x76 (shapeCast S76x76 (broadcastInDim S76x1x1x76 ![0, 1, 2, 3] bcast_S1x1x1x76_S76x1x1x76_0_1_2_3
    (shapeCast S1x1x1x76 (broadcastInDim S1x76 ![1] bcast_S76_S1x76_1 (sitofp .f32 (iotaInDim S76 32 0))) shapeCasts_S1x76_S1x1x1x76))
    shapeCasts_S76x1x1x76_S76x76) shapeCasts_S76x76_S1x1x76x76

/-- Each cell's column and row. -/
def cells : FVec Ideal S1x1x76x76x2 .f32 :=
  concatenate S1x1x76x76x2 4
    [⟨S1x1x76x76x1, broadcastInDim S1x1x76x76x1 ![0, 1, 2, 3] bcast_S1x1x76x76_S1x1x76x76x1_0_1_2_3 columns⟩,
     ⟨S1x1x76x76x1, broadcastInDim S1x1x76x76x1 ![0, 1, 2, 3] bcast_S1x1x76x76_S1x1x76x76x1_0_1_2_3
        (transpose S1x1x76x76 [0, 1, 3, 2] columns transposes_S1x1x76x76_S1x1x76x76_0_1_3_2)⟩]
    concatenates_S1x1x76x76x1_S1x1x76x76x1_S1x1x76x76x2_d4

/-- The centres, in pixels. -/
def centres (p : FVec Ideal S32x255x76x76 .f32) (i : IVec S_ 32) : FVec Ideal S32x3x76x76x2 .f32 :=
  mulf (addf
      (Host.divf (broadcastInDim S32x3x76x76x2 ![] bcast_S_S32x3x76x76x2 (constant S_ .f32 0x3F800000#32))
        (addf (broadcastInDim S32x3x76x76x2 ![] bcast_S_S32x3x76x76x2 (constant S_ .f32 0x3F800000#32))
          (Host.exp (Host.negf (extractStridedSlice S32x3x76x76x2 ![0, 0, 0, 0, 0] (channelsLast p) slices_S32x3x76x76x85_S32x3x76x76x2_0_0_0_0_0)))))
      (broadcastInDim S32x3x76x76x2 ![0, 1, 2, 3, 4] bcast_S1x1x76x76x2_S32x3x76x76x2_0_1_2_3_4 cells))
    (broadcastInDim S32x3x76x76x2 ![] bcast_S_S32x3x76x76x2 (strideVec i))

/-- The sizes, in pixels: the anchors in cells, scaled, and the result in pixels again. -/
def sizes (p : FVec Ideal S32x255x76x76 .f32) (a : FVec Ideal S3x2 .f32) (i : IVec S_ 32) : FVec Ideal S32x3x76x76x2 .f32 :=
  mulf (mulf
      (Host.exp (extractStridedSlice S32x3x76x76x2 ![0, 0, 0, 0, 2] (channelsLast p) slices_S32x3x76x76x85_S32x3x76x76x2_0_0_0_0_2))
      (broadcastInDim S32x3x76x76x2 ![0, 1, 2, 3, 4] bcast_S1x3x1x1x2_S32x3x76x76x2_0_1_2_3_4
        (shapeCast S1x3x1x1x2 (Host.divf a (broadcastInDim S3x2 ![] bcast_S_S3x2 (strideVec i))) shapeCasts_S3x2_S1x3x1x1x2)))
    (broadcastInDim S32x3x76x76x2 ![] bcast_S_S32x3x76x76x2 (strideVec i))

/-- The confidences. -/
def confidences (p : FVec Ideal S32x255x76x76 .f32) : FVec Ideal S32x3x76x76x1 .f32 :=
  Host.divf (broadcastInDim S32x3x76x76x1 ![] bcast_S_S32x3x76x76x1 (constant S_ .f32 0x3F800000#32))
    (addf (broadcastInDim S32x3x76x76x1 ![] bcast_S_S32x3x76x76x1 (constant S_ .f32 0x3F800000#32))
      (Host.exp (Host.negf (extractStridedSlice S32x3x76x76x1 ![0, 0, 0, 0, 4] (channelsLast p) slices_S32x3x76x76x85_S32x3x76x76x1_0_0_0_0_4))))

/-- The reference's result. -/
def out (p : FVec Ideal S32x255x76x76 .f32) (a : FVec Ideal S3x2 .f32) (i : IVec S_ 32) : FVec Ideal S32x17328x85 .f32 :=
  shapeCast S32x17328x85
    (concatenate S32x3x76x76x85 4
      [⟨S32x3x76x76x2, centres p i⟩, ⟨S32x3x76x76x2, sizes p a i⟩, ⟨S32x3x76x76x1, confidences p⟩,
       ⟨S32x3x76x76x80, extractStridedSlice S32x3x76x76x80 ![0, 0, 0, 0, 5] (channelsLast p) slices_S32x3x76x76x85_S32x3x76x76x80_0_0_0_0_5⟩]
      concatenates_S32x3x76x76x2_S32x3x76x76x2_S32x3x76x76x1_S32x3x76x76x80_S32x3x76x76x85_d4)
    shapeCasts_S32x3x76x76x85_S32x17328x85

/-- Every run of the reference ends with `out` of its arguments, and leaves them as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Value.run m ρ

/-- The result entry by entry: row `r` of an image is anchor `r / 5776`, row `r / 76 % 76`, column `r % 76`. -/
theorem out_apply (p : FVec Ideal S32x255x76x76 .f32) (a : FVec Ideal S3x2 .f32) (i : IVec S_ 32) (u : Fin 32) (r : Fin 17328) (k : Fin 85) :
    out p a i (ix3 u r k)
      = Box.entry (p (ix4 u ⟨r.val / 5776 * 85 + k.val, by omega⟩ ⟨r.val / 76 % 76, by omega⟩ ⟨r.val % 76, by omega⟩)) k.val (i ix0)
          (a (ix2 ⟨r.val / 5776, by omega⟩ 0)) (a (ix2 ⟨r.val / 5776, by omega⟩ 1)) (r.val % 76) (r.val / 76 % 76) := by
  pointwise [out, centres, sizes, confidences, cells, columns, channelsLast, strideVec]
  have ex := Box.sitofp_ofNat (r.val % 76) (by omega)
  have ey := Box.sitofp_ofNat (r.val / 76 % 76) (by omega)
  rcases k with ⟨k, hk⟩
  rcases k with _ | _ | _ | _ | _ | k
  · exact congrArg (fun z => (Ideal.logistic _ + z) * Box.stride _) ex
  · exact congrArg (fun z => (Ideal.logistic _ + z) * Box.stride _) ey
  · rfl
  · rfl
  · rfl
  · have e : 5 + (k + 1 + 1 + 1 + 1 + 1 - 2 - 2 - 1) = k + 1 + 1 + 1 + 1 + 1 := by omega
    have h2 : ¬ k + 1 + 1 + 1 + 1 + 1 < 2 := by omega
    have h4 : ¬ k + 1 + 1 + 1 + 1 + 1 - 2 < 2 := by omega
    have h5 : ¬ k + 1 + 1 + 1 + 1 + 1 - 2 - 2 < 1 := by omega
    refine ((dif_neg h2).trans ((dif_neg h4).trans (dif_neg h5))).trans ?_
    refine Eq.trans ?_ (Box.entry_scores _ (k + 1 + 1 + 1 + 1 + 1) _ _ _ _ _ (Nat.le_add_left 5 k)).symm
    simp only [e]

end Cert.ReferenceIdeal.Body

end
-- ==== Proof.Val.Equal.lean ====
/- The kernel's result and the reference's are the same array. -/
module

public import proofs.«01_k».proof.Proof.Val.Tile
public import proofs.«01_k».proof.Proof.Val.Reference

@[expose] public section

noncomputable section

namespace Cert.KernelIdeal.Body

open Idealize.ShloMosaic Idealize.ShloMosaic.TcCoe Cert.KernelIdeal.Gen

/-- The kernel's five decoded channels are the entries meant: each side's arithmetic is the other's by the laws of
    `Box.centre` and `Box.size`. -/
theorem decoded_eq_entry (x a0 a1 : EReal) (w : BitVec 32) (gx gy k : ℕ) (hk : k < 5) (hw : w ≠ 0#32) :
    decoded x (Box.stride w) a0 a1 (if k < 2 then (if k < 1 then Box.num gx else Box.num gy) * Box.stride w else 0) k
      = Box.entry x k w a0 a1 gx gy := by
  match k, hk with
  | 0, _ => simpa [decoded, Box.entry] using Box.centre x gx w
  | 1, _ => simpa [decoded, Box.entry] using Box.centre x gy w
  | 2, _ => simpa [decoded, Box.entry] using (Box.size x a0 w hw).symm
  | 3, _ => simpa [decoded, Box.entry] using (Box.size x a1 w hw).symm
  | 4, _ => simp [decoded, Box.entry]

/-- A step's tile on the predictions, corners and sizes the host hands over, entry by entry. -/
theorem stepVal_apply (p : FVec Ideal S32x255x76x76 .f32) (a : FVec Ideal S3x2 .f32) (img : IVec S_ 32) (hw : img ix0 ≠ 0#32)
    (u : Fin 32) (k : Fin 85) (r : Fin 17328) :
    stepVal (F := Ideal) (xrow (cellsFirst p) u) (cornerVec img) (sizesVec a img) k r
      = Box.entry (p (ix4 u ⟨r.val / 5776 * 85 + k.val, by omega⟩ ⟨r.val % 5776 / 76, by omega⟩ ⟨r.val % 5776 % 76, by omega⟩)) k.val (img ix0)
          (a (ix2 ⟨r.val / 5776, by omega⟩ 0)) (a (ix2 ⟨r.val / 5776, by omega⟩ 1)) (r.val % 5776 % 76) (r.val % 5776 / 76) := by
  have hb (x : Fin 85) : rowsOf (k0_pay1 (F := Ideal) (xrow (cellsFirst p) u)) ⟨r.val / 5776, by omega⟩ (ix2 x ⟨r.val % 5776, by omega⟩)
      = p (ix4 u ⟨r.val / 5776 * 85 + x.val, by omega⟩ ⟨r.val % 5776 / 76, by omega⟩ ⟨r.val % 5776 % 76, by omega⟩) :=
    (rowsOf_apply _ _ x _).trans (cellsFirst_apply p _ u _)
  unfold stepVal
  simp only [boxRows, ← ix2_eq_valueIdx, ← ix3_eq_valueIdx]
  split
  · rename_i h
    refine (decoded_rows _ _ _ _ _ ⟨k.val, h⟩ _).trans ?_
    rw [bias_apply, hb]
    refine Eq.trans ?_ (decoded_eq_entry _ _ _ (img ix0) (r.val % 5776 % 76) (r.val % 5776 / 76) k.val h hw)
    refine congr (congr (congr (congr (congr (congrArg decoded rfl) ?_) ?_) ?_) ?_) rfl
    · exact sizesVec_stride a img 0
    · exact sizesVec_anchor a img ⟨r.val / 5776, by omega⟩ 0
    · exact sizesVec_anchor a img ⟨r.val / 5776, by omega⟩ 1
    · by_cases h2 : k.val < 2
      · rw [dif_pos h2, if_pos h2]
        exact cornerVec_apply img ⟨k.val, h2⟩ _
      · rw [dif_neg h2, if_neg h2]
  · rename_i h
    exact ((copied_rows _ k _).trans (hb k)).trans (Box.entry_scores _ _ _ _ _ _ _ (by omega)).symm

/-- The kernel's result with its axes in the order of the reference's is the reference's result. -/
theorem result_eq (m : (ℓ : Loc nD τ sig) → Buf (Elt Ideal) ℓ) (c : Dev nD) (hw : (m ((c : Thread nD τ).loc main_arg2) : IVec S_ 32) ix0 ≠ 0#32) :
    transpose S32x17328x85 [1, 2, 0] (resultOf m c) transposes_S85x32x17328_S32x17328x85_1_2_0
      = ReferenceIdeal.Body.out (m ((c : Thread nD τ).loc main_arg0)) (m ((c : Thread nD τ).loc main_arg1)) (m ((c : Thread nD τ).loc main_arg2)) := by
  funext j
  have hj : j = ix3 (j 0 : Fin 32) (j 1 : Fin 17328) (j 2 : Fin 85) := eq_ix3 j
  rw [hj]
  generalize (j 0 : Fin 32) = u
  generalize (j 1 : Fin 17328) = r
  generalize (j 2 : Fin 85) = k
  have e : transpose S32x17328x85 [1, 2, 0] (resultOf m c) transposes_S85x32x17328_S32x17328x85_1_2_0 (ix3 u r k)
      = resultOf m c (ix3 k u r) := by pointwise
  have hy : r.val % 5776 / 76 = r.val / 76 % 76 := by omega
  have hx : r.val % 5776 % 76 = r.val % 76 := by omega
  refine (e.trans ?_).trans (ReferenceIdeal.Body.out_apply _ _ _ u r k).symm
  show stepVal (xrow (V m c main_v3) u) (tableAt m c (stepOf u)) (paramsAt m c (stepOf u)) k r = _
  rw [tableAt_eq, paramsAt_eq, V_main_v3, V_main_v15, V_main_v17]
  refine (stepVal_apply _ _ _ hw u k r).trans ?_
  simp only [hx, hy]

end Cert.KernelIdeal.Body

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ker.End
public import proofs.«01_k».proof.Proof.KerBits.End
public import proofs.«01_k».proof.Proof.Val.Equal
public import Idealize.ShloMosaic.Adequacy
public import Idealize.ShloMosaic.Init

@[expose] public section

noncomputable section

namespace Cert.Proof

open Idealize.ShloMosaic Idealize.SL.Sem

/-- The precondition's function states no side condition. -/
theorem pre_facts : Cert.Pre_img_size_nonzero.Facts := ⟨⟩

/-- The kernel runs, leaves its arguments unchanged and every counter at zero. -/
theorem kernel_frame : Cert.quiescent_Kernel := fun m ρ _ => Cert.Kernel.Body.frame m ρ

/-- The kernel over the extended reals runs, leaves its arguments unchanged and every counter at zero. -/
theorem ideal_frame : Cert.quiescent_KernelIdeal := fun m ρ _ => Cert.KernelIdeal.Body.frame m ρ

/-- The same under the precondition. -/
theorem ideal_frame_pre : Cert.quiescent_KernelIdeal_pre_img_size_nonzero (hPre_img_size_nonzero := pre_facts) :=
  fun m ρ _ => Cert.KernelIdeal.Body.frame m ρ

/-- A run of the reference leaves its arguments unchanged; it declares no semaphore, so every counter is zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem reference_frame_pre : Cert.quiescent_ReferenceIdeal_pre_img_size_nonzero (hPre_img_size_nonzero := pre_facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the precondition says of the launch: the image size is not the word zero. -/
theorem size_ne_zero (m : (ℓ : Loc Cert.KernelIdeal.nD Cert.KernelIdeal.τ Cert.KernelIdeal.sig) → Buf (Elt Ideal) ℓ)
    (h : Cert.Pre_KernelIdeal_img_size_nonzero (hPre_img_size_nonzero := pre_facts) m) (c : Dev Cert.KernelIdeal.nD) :
    (m ((c.tc : Thread Cert.KernelIdeal.nD Cert.KernelIdeal.τ).loc Cert.KernelIdeal.main_arg2) : IVec Cert.KernelIdeal.S_ 32) ix0 ≠ 0#32 := by
  intro e
  have h0 := congrFun (h c) ix0
  change BitVec.ofBool ((m ((c.tc : Thread Cert.KernelIdeal.nD Cert.KernelIdeal.τ).loc Cert.KernelIdeal.main_arg2) : IVec Cert.KernelIdeal.S_ 32) ix0 != 0#32) = 1#1 at h0
  rw [e] at h0
  exact (by decide : ¬ BitVec.ofBool ((0#32 : BitVec 32) != 0#32) = 1#1) h0

/-- From equal arguments, the image size not being zero, the kernel and the reference end with equal results. -/
theorem equal_results : Cert.algebraic_KernelIdeal_ReferenceIdeal_pre_img_size_nonzero (hPre_img_size_nonzero := pre_facts) := by
  intro m g m' g' hpre harg
  refine ⟨fun c => Cert.ReferenceIdeal.Body.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h.1 c).2.trans (Cert.KernelIdeal.Body.result_eq m c (size_ne_zero m hpre c)), (h.1 c).1⟩)
      (Cert.KernelIdeal.Body.run_result (F := Ideal) m g)
  · refine (θ_run Cert.ReferenceIdeal.defs _ _).mono (fun r h c => ⟨(h c).1.trans ?_, (h c).2⟩) (Cert.ReferenceIdeal.Body.run_out m' g')
    rw [(harg c).1, (harg c).2.1, (harg c).2.2]

/-- Everything claimed. -/
theorem claim : Cert.Claim := ⟨Cert.Kernel.Gen.facts, Cert.KernelIdeal.Gen.facts, Cert.ReferenceIdeal.Gen.facts, pre_facts,
  kernel_frame, ideal_frame, ideal_frame_pre, reference_frame, reference_frame_pre, trivial, equal_results⟩

end Cert.Proof

end
